-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_range [hPre_valid_range : Cert.Pre_valid_range.Facts] (m : (ℓ : Loc Cert.KernelIdeal.nD Cert.KernelIdeal.τ Cert.KernelIdeal.sig) → Buf (Elt Ideal) ℓ) : Prop :=
  ∀ c : Dev Cert.KernelIdeal.nD,
    (Cert.Pre_valid_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_range [hPre_valid_range : Cert.Pre_valid_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid_range [hKernelIdeal : Cert.KernelIdeal.Facts] [hPre_valid_range : Cert.Pre_valid_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid_range [hReferenceIdeal : Cert.ReferenceIdeal.Facts] [hPre_valid_range : Cert.Pre_valid_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_valid_range [hKernelIdeal : Cert.KernelIdeal.Facts] [hReferenceIdeal : Cert.ReferenceIdeal.Facts] [hPre_valid_range : Cert.Pre_valid_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid_range : Cert.Pre_valid_range.Facts),
    quiescent_Kernel (hKernel := hKernel)
    ∧ quiescent_KernelIdeal (hKernelIdeal := hKernelIdeal)
    ∧ quiescent_KernelIdeal_pre_valid_range (hKernelIdeal := hKernelIdeal) (hPre_valid_range := hPre_valid_range)
    ∧ quiescent_ReferenceIdeal (hReferenceIdeal := hReferenceIdeal)
    ∧ quiescent_ReferenceIdeal_pre_valid_range (hReferenceIdeal := hReferenceIdeal) (hPre_valid_range := hPre_valid_range)
    ∧ preserves_Kernel_KernelIdeal
    ∧ algebraic_KernelIdeal_ReferenceIdeal_pre_valid_range (hKernelIdeal := hKernelIdeal) (hReferenceIdeal := hReferenceIdeal) (hPre_valid_range := hPre_valid_range)
-- ==== Pre_valid_range.lean ====
abbrev S131072x24x32 : Shape := ⟨3, ![131072, 24, 32]⟩
abbrev S131072x24 : Shape := ⟨2, ![131072, 24]⟩
abbrev S6x4x32x32 : Shape := ⟨4, ![6, 4, 32, 32]⟩
abbrev S6x1x4x32 : Shape := ⟨4, ![6, 1, 4, 32]⟩
abbrev S6x4x32x1 : Shape := ⟨4, ![6, 4, 32, 1]⟩
abbrev S6x1x4x1 : Shape := ⟨4, ![6, 1, 4, 1]⟩
abbrev S_ : Shape := ⟨0, ![]⟩

class Facts : Prop where
  bcast_S_S131072x24 : S_.BroadcastsInDim S131072x24 (![] : Fin 0 → Fin S131072x24.rank)

variable [Facts]

def fn {F : FTy → Type} [FloatOps F] (main_arg0 : FVec F S131072x24x32 .f32) (main_arg1 : IVec S131072x24 32) (main_arg2 : FVec F S6x4x32x32 .f32) (main_arg3 : FVec F S6x1x4x32 .f32) (main_arg4 : FVec F S6x4x32x1 .f32) (main_arg5 : FVec F S6x1x4x1 .f32) : IVec S131072x24 1 :=
  let main_c : IVec S_ 32 := constantI S_ 32 0#32
  let main_v0 : IVec S131072x24 32 := broadcastInDim S131072x24 ![] bcast_S_S131072x24 main_c
  let main_v1 : IVec S131072x24 1 := cmpi .sge main_arg1 main_v0
  let main_c_0 : IVec S_ 32 := constantI S_ 32 2#32
  let main_v2 : IVec S131072x24 32 := broadcastInDim S131072x24 ![] bcast_S_S131072x24 main_c_0
  let main_v3 : IVec S131072x24 1 := cmpi .slt main_arg1 main_v2
  let main_v4 : IVec S131072x24 1 := andi main_v1 main_v3
  main_v4
-- ==== Kernel.lean ====
abbrev S131072x24x32 : Shape := ⟨3, ![131072, 24, 32]⟩
abbrev S131072x24 : Shape := ⟨2, ![131072, 24]⟩
abbrev S6x4x32x32 : Shape := ⟨4, ![6, 4, 32, 32]⟩
abbrev S6x1x4x32 : Shape := ⟨4, ![6, 1, 4, 32]⟩
abbrev S6x4x32x1 : Shape := ⟨4, ![6, 4, 32, 1]⟩
abbrev S6x1x4x1 : Shape := ⟨4, ![6, 1, 4, 1]⟩
abbrev S24 : Shape := ⟨1, ![24]⟩
abbrev S24x24 : Shape := ⟨2, ![24, 24]⟩
abbrev S24x32x32 : Shape := ⟨3, ![24, 32, 32]⟩
abbrev S_ : Shape := ⟨0, ![]⟩
abbrev S24x1 : Shape := ⟨2, ![24, 1]⟩
abbrev S8x8 : Shape := ⟨2, ![8, 8]⟩
abbrev S3x8x32x32 : Shape := ⟨4, ![3, 8, 32, 32]⟩
abbrev S3x8x32x1x32 : Shape := ⟨5, ![3, 8, 32, 1, 32]⟩
abbrev S1x8x1x8x1 : Shape := ⟨5, ![1, 8, 1, 8, 1]⟩
abbrev S3x8x32x8x32 : Shape := ⟨5, ![3, 8, 32, 8, 32]⟩
abbrev S3x256x256 : Shape := ⟨3, ![3, 256, 256]⟩
abbrev S24x32 : Shape := ⟨2, ![24, 32]⟩
abbrev S3x256x1 : Shape := ⟨3, ![3, 256, 1]⟩
abbrev S24x1x24 : Shape := ⟨3, ![24, 1, 24]⟩
abbrev S24x32x1 : Shape := ⟨3, ![24, 32, 1]⟩
abbrev S24x32x24 : Shape := ⟨3, ![24, 32, 24]⟩
abbrev S768x24 : Shape := ⟨2, ![768, 24]⟩
abbrev S24x768 : Shape := ⟨2, ![24, 768]⟩
abbrev S24x32x131072 : Shape := ⟨3, ![24, 32, 131072]⟩
abbrev S768x131072 : Shape := ⟨2, ![768, 131072]⟩
abbrev S24x131072 : Shape := ⟨2, ![24, 131072]⟩
abbrev S24x1x131072 : Shape := ⟨3, ![24, 1, 131072]⟩
abbrev S768x4096 : Shape := ⟨2, ![768, 4096]⟩
abbrev S24x4096 : Shape := ⟨2, ![24, 4096]⟩
abbrev S24x1x4096 : Shape := ⟨3, ![24, 1, 4096]⟩
abbrev S1x256x256 : Shape := ⟨3, ![1, 256, 256]⟩
abbrev S256x256 : Shape := ⟨2, ![256, 256]⟩
abbrev S256x4096 : Shape := ⟨2, ![256, 4096]⟩
abbrev S1x256x1 : Shape := ⟨3, ![1, 256, 1]⟩
abbrev S256x1 : Shape := ⟨2, ![256, 1]⟩
abbrev S131072x24x1 : Shape := ⟨3, ![131072, 24, 1]⟩

abbrev nBuf : Space → Nat
  | .hbm => 78
  | .vmem => 11
  | .smem => 0
  | _ => 0

abbrev bufTy : (tb : Table) → Fin (tcTables nBuf tb) → BufTy
  | .hbm, ⟨0, _⟩ => ⟨S131072x24x32, .f32⟩
  | .hbm, ⟨1, _⟩ => ⟨S131072x24, .i32⟩
  | .hbm, ⟨2, _⟩ => ⟨S6x4x32x32, .f32⟩
  | .hbm, ⟨3, _⟩ => ⟨S6x1x4x32, .f32⟩
  | .hbm, ⟨4, _⟩ => ⟨S6x4x32x1, .f32⟩
  | .hbm, ⟨5, _⟩ => ⟨S6x1x4x1, .f32⟩
  | .hbm, ⟨6, _⟩ => ⟨S24, .i32⟩
  | .hbm, ⟨7, _⟩ => ⟨S24, .i1⟩
  | .hbm, ⟨8, _⟩ => ⟨S24, .i1⟩
  | .hbm, ⟨9, _⟩ => ⟨S24, .i1⟩
  | .hbm, ⟨10, _⟩ => ⟨S24, .i1⟩
  | .hbm, ⟨11, _⟩ => ⟨S24x24, .f32⟩
  | .hbm, ⟨12, _⟩ => ⟨S24x32x32, .f32⟩
  | .hbm, ⟨13, _⟩ => ⟨S_, .i32⟩
  | .hbm, ⟨14, _⟩ => ⟨S24, .i32⟩
  | .hbm, ⟨15, _⟩ => ⟨S24, .i32⟩
  | .hbm, ⟨16, _⟩ => ⟨S24, .i32⟩
  | .hbm, ⟨17, _⟩ => ⟨S24x1, .i32⟩
  | .hbm, ⟨18, _⟩ => ⟨S24x32x32, .f32⟩
  | .hbm, ⟨19, _⟩ => ⟨S24x32x32, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S3x8x32x32, .f32⟩
  | .hbm, ⟨28, _⟩ => ⟨S3x8x32x1x32, .f32⟩
  | .hbm, ⟨29, _⟩ => ⟨S1x8x1x8x1, .f32⟩
  | .hbm, ⟨30, _⟩ => ⟨S3x8x32x8x32, .f32⟩
  | .hbm, ⟨31, _⟩ => ⟨S3x8x32x8x32, .f32⟩
  | .hbm, ⟨32, _⟩ => ⟨S3x8x32x8x32, .f32⟩
  | .hbm, ⟨33, _⟩ => ⟨S3x256x256, .f32⟩
  | .hbm, ⟨34, _⟩ => ⟨S24x32, .f32⟩
  | .hbm, ⟨35, _⟩ => ⟨S_, .i32⟩
  | .hbm, ⟨36, _⟩ => ⟨S24, .i32⟩
  | .hbm, ⟨37, _⟩ => ⟨S24, .i32⟩
  | .hbm, ⟨38, _⟩ => ⟨S24, .i32⟩
  | .hbm, ⟨39, _⟩ => ⟨S24x1, .i32⟩
  | .hbm, ⟨40, _⟩ => ⟨S24x32, .f32⟩
  | .hbm, ⟨41, _⟩ => ⟨S3x256x1, .f32⟩
  | .hbm, ⟨42, _⟩ => ⟨S24x32, .f32⟩
  | .hbm, ⟨43, _⟩ => ⟨S_, .i32⟩
  | .hbm, ⟨44, _⟩ => ⟨S24, .i32⟩
  | .hbm, ⟨45, _⟩ => ⟨S24, .i32⟩
  | .hbm, ⟨46, _⟩ => ⟨S24, .i32⟩
  | .hbm, ⟨47, _⟩ => ⟨S24x1, .i32⟩
  | .hbm, ⟨48, _⟩ => ⟨S24x32, .f32⟩
  | .hbm, ⟨49, _⟩ => ⟨S24x24, .i32⟩
  | .hbm, ⟨50, _⟩ => ⟨S24x24, .i32⟩
  | .hbm, ⟨51, _⟩ => ⟨S_, .i32⟩
  | .hbm, ⟨52, _⟩ => ⟨S24x24, .i32⟩
  | .hbm, ⟨53, _⟩ => ⟨S24x24, .i32⟩
  | .hbm, ⟨54, _⟩ => ⟨S24x24, .i1⟩
  | .hbm, ⟨55, _⟩ => ⟨S24x24, .f32⟩
  | .hbm, ⟨56, _⟩ => ⟨S24x1x24, .f32⟩
  | .hbm, ⟨57, _⟩ => ⟨S24x32x1, .f32⟩
  | .hbm, ⟨58, _⟩ => ⟨S24x32x24, .f32⟩
  | .hbm, ⟨59, _⟩ => ⟨S24x32x24, .f32⟩
  | .hbm, ⟨60, _⟩ => ⟨S24x32x24, .f32⟩
  | .hbm, ⟨61, _⟩ => ⟨S768x24, .f32⟩
  | .hbm, ⟨62, _⟩ => ⟨S24x768, .f32⟩
  | .hbm, ⟨63, _⟩ => ⟨S24, .f32⟩
  | .hbm, ⟨64, _⟩ => ⟨S_, .i32⟩
  | .hbm, ⟨65, _⟩ => ⟨S24, .i32⟩
  | .hbm, ⟨66, _⟩ => ⟨S24, .i32⟩
  | .hbm, ⟨67, _⟩ => ⟨S24, .i32⟩
  | .hbm, ⟨68, _⟩ => ⟨S24x1, .i32⟩
  | .hbm, ⟨69, _⟩ => ⟨S24, .f32⟩
  | .hbm, ⟨70, _⟩ => ⟨S24x1, .f32⟩
  | .hbm, ⟨71, _⟩ => ⟨S24x32x131072, .f32⟩
  | .hbm, ⟨72, _⟩ => ⟨S768x131072, .f32⟩
  | .hbm, ⟨73, _⟩ => ⟨S24x131072, .i32⟩
  | .hbm, ⟨74, _⟩ => ⟨S3x256x256, .bf16⟩
  | .hbm, ⟨75, _⟩ => ⟨S24x768, .bf16⟩
  | .hbm, ⟨76, _⟩ => ⟨S24x1x131072, .f32⟩
  | .hbm, ⟨77, _⟩ => ⟨S131072x24x1, .f32⟩
  | .local _ .vmem, ⟨0, _⟩ => ⟨S768x4096, .f32⟩
  | .local _ .vmem, ⟨1, _⟩ => ⟨S768x4096, .f32⟩
  | .local _ .vmem, ⟨2, _⟩ => ⟨S24x4096, .i32⟩
  | .local _ .vmem, ⟨3, _⟩ => ⟨S24x4096, .i32⟩
  | .local _ .vmem, ⟨4, _⟩ => ⟨S3x256x256, .bf16⟩
  | .local _ .vmem, ⟨5, _⟩ => ⟨S3x256x1, .f32⟩
  | .local _ .vmem, ⟨6, _⟩ => ⟨S24x768, .bf16⟩
  | .local _ .vmem, ⟨7, _⟩ => ⟨S24x1, .f32⟩
  | .local _ .vmem, ⟨8, _⟩ => ⟨S24x24, .f32⟩
  | .local _ .vmem, ⟨9, _⟩ => ⟨S24x1x4096, .f32⟩
  | .local _ .vmem, ⟨10, _⟩ => ⟨S24x1x4096, .f32⟩
  | _, _ => ⟨S131072x24x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_cst : Ref sig .tc := ⟨.hbm, 11, rfl⟩
abbrev main_v0 : Ref sig .tc := ⟨.hbm, 12, rfl⟩
abbrev main_c_4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S768x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S24x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S131072x24x32 : Shape := ⟨3, ![131072, 24, 32]⟩
abbrev S131072x24 : Shape := ⟨2, ![131072, 24]⟩
abbrev S6x4x32x32 : Shape := ⟨4, ![6, 4, 32, 32]⟩
abbrev S6x1x4x32 : Shape := ⟨4, ![6, 1, 4, 32]⟩
abbrev S6x4x32x1 : Shape := ⟨4, ![6, 4, 32, 1]⟩
abbrev S6x1x4x1 : Shape := ⟨4, ![6, 1, 4, 1]⟩
abbrev S6x4 : Shape := ⟨2, ![6, 4]⟩
abbrev S1x4 : Shape := ⟨2, ![1, 4]⟩
abbrev S4 : Shape := ⟨1, ![4]⟩
abbrev S_ : Shape := ⟨0, ![]⟩
abbrev S4x1 : Shape := ⟨2, ![4, 1]⟩
abbrev S131072x4 : Shape := ⟨2, ![131072, 4]⟩
abbrev S131072 : Shape := ⟨1, ![131072]⟩
abbrev S131072x1x1 : Shape := ⟨3, ![131072, 1, 1]⟩
abbrev S131072x4x32 : Shape := ⟨3, ![131072, 4, 32]⟩
abbrev S1x4x32x32 : Shape := ⟨4, ![1, 4, 32, 32]⟩
abbrev S4x32x32 : Shape := ⟨3, ![4, 32, 32]⟩
abbrev S4x32x131072 : Shape := ⟨3, ![4, 32, 131072]⟩
abbrev S1x1x4x32 : Shape := ⟨4, ![1, 1, 4, 32]⟩
abbrev S1x4x32 : Shape := ⟨3, ![1, 4, 32]⟩
abbrev S1x4x32x1 : Shape := ⟨4, ![1, 4, 32, 1]⟩
abbrev S4x32x1 : Shape := ⟨3, ![4, 32, 1]⟩
abbrev S4x1x131072 : Shape := ⟨3, ![4, 1, 131072]⟩
abbrev S131072x4x1 : Shape := ⟨3, ![131072, 4, 1]⟩
abbrev S1x1x4x1 : Shape := ⟨4, ![1, 1, 4, 1]⟩
abbrev S1x4x1 : Shape := ⟨3, ![1, 4, 1]⟩
abbrev S131072x1x4x1 : Shape := ⟨4, ![131072, 1, 4, 1]⟩
abbrev S131072x6x4x1 : Shape := ⟨4, ![131072, 6, 4, 1]⟩
abbrev S131072x24x1 : Shape := ⟨3, ![131072, 24, 1]⟩
abbrev S24 : Shape := ⟨1, ![24]⟩
abbrev S24x1 : Shape := ⟨2, ![24, 1]⟩

abbrev nBuf : Space → Nat
  | .hbm => 333
  | .vmem => 0
  | .smem => 0
  | _ => 0

abbrev hbmTy0_0 (i : Nat) : BufTy := match i % 128 with
  | 0 => ⟨S131072x24x32, .f32⟩
  | 1 => ⟨S131072x24, .i32⟩
  | 2 => ⟨S6x4x32x32, .f32⟩
  | 3 => ⟨S6x1x4x32, .f32⟩
  | 4 => ⟨S6x4x32x1, .f32⟩
  | 5 => ⟨S6x1x4x1, .f32⟩
  | 6 => ⟨S6x4, .i32⟩
  | 7 => ⟨S1x4, .i32⟩
  | 8 => ⟨S4, .i32⟩
  | 9 => ⟨S_, .i32⟩
  | 10 => ⟨S4, .i32⟩
  | 11 => ⟨S4, .i1⟩
  | 12 => ⟨S_, .i32⟩
  | 13 => ⟨S4, .i32⟩
  | 14 => ⟨S4, .i32⟩
  | 15 => ⟨S4, .i32⟩
  | 16 => ⟨S4x1, .i32⟩
  | 17 => ⟨S131072x4, .i32⟩
  | 18 => ⟨S_, .i32⟩
  | 19 => ⟨S131072, .i32⟩
  | 20 => ⟨S_, .i32⟩
  | 21 => ⟨S131072, .i32⟩
  | 22 => ⟨S131072, .i1⟩
  | 23 => ⟨S131072, .f32⟩
  | 24 => ⟨S131072x1x1, .f32⟩
  | 25 => ⟨S_, .i32⟩
  | 26 => ⟨S4, .i32⟩
  | 27 => ⟨S4, .i1⟩
  | 28 => ⟨S_, .i32⟩
  | 29 => ⟨S4, .i32⟩
  | 30 => ⟨S4, .i32⟩
  | 31 => ⟨S4, .i32⟩
  | 32 => ⟨S4x1, .i32⟩
  | 33 => ⟨S131072x4x32, .f32⟩
  | 34 => ⟨S_, .f32⟩
  | 35 => ⟨S131072x4x32, .f32⟩
  | 36 => ⟨S131072x4x32, .f32⟩
  | 37 => ⟨S1x4x32x32, .f32⟩
  | 38 => ⟨S4x32x32, .f32⟩
  | 39 => ⟨S4x32x131072, .f32⟩
  | 40 => ⟨S131072x4x32, .f32⟩
  | 41 => ⟨S1x1x4x32, .f32⟩
  | 42 => ⟨S1x4x32, .f32⟩
  | 43 => ⟨S131072x4x32, .f32⟩
  | 44 => ⟨S131072x4x32, .f32⟩
  | 45 => ⟨S_, .f32⟩
  | 46 => ⟨S131072x4x32, .f32⟩
  | 47 => ⟨S131072x4x32, .f32⟩
  | 48 => ⟨S1x4x32x1, .f32⟩
  | 49 => ⟨S4x32x1, .f32⟩
  | 50 => ⟨S4x1x131072, .f32⟩
  | 51 => ⟨S131072x4x1, .f32⟩
  | 52 => ⟨S1x1x4x1, .f32⟩
  | 53 => ⟨S1x4x1, .f32⟩
  | 54 => ⟨S131072x4x1, .f32⟩
  | 55 => ⟨S131072x4x1, .f32⟩
  | 56 => ⟨S131072x4x1, .f32⟩
  | 57 => ⟨S131072x4x1, .f32⟩
  | 58 => ⟨S1x4, .i32⟩
  | 59 => ⟨S4, .i32⟩
  | 60 => ⟨S_, .i32⟩
  | 61 => ⟨S4, .i32⟩
  | 62 => ⟨S4, .i1⟩
  | 63 => ⟨S_, .i32⟩
  | 64 => ⟨S4, .i32⟩
  | 65 => ⟨S4, .i32⟩
  | 66 => ⟨S4, .i32⟩
  | 67 => ⟨S4x1, .i32⟩
  | 68 => ⟨S131072x4, .i32⟩
  | 69 => ⟨S_, .i32⟩
  | 70 => ⟨S131072, .i32⟩
  | 71 => ⟨S_, .i32⟩
  | 72 => ⟨S131072, .i32⟩
  | 73 => ⟨S131072, .i1⟩
  | 74 => ⟨S131072, .f32⟩
  | 75 => ⟨S131072x1x1, .f32⟩
  | 76 => ⟨S_, .i32⟩
  | 77 => ⟨S4, .i32⟩
  | 78 => ⟨S4, .i1⟩
  | 79 => ⟨S_, .i32⟩
  | 80 => ⟨S4, .i32⟩
  | 81 => ⟨S4, .i32⟩
  | 82 => ⟨S4, .i32⟩
  | 83 => ⟨S4x1, .i32⟩
  | 84 => ⟨S131072x4x32, .f32⟩
  | 85 => ⟨S_, .f32⟩
  | 86 => ⟨S131072x4x32, .f32⟩
  | 87 => ⟨S131072x4x32, .f32⟩
  | 88 => ⟨S1x4x32x32, .f32⟩
  | 89 => ⟨S4x32x32, .f32⟩
  | 90 => ⟨S4x32x131072, .f32⟩
  | 91 => ⟨S131072x4x32, .f32⟩
  | 92 => ⟨S1x1x4x32, .f32⟩
  | 93 => ⟨S1x4x32, .f32⟩
  | 94 => ⟨S131072x4x32, .f32⟩
  | 95 => ⟨S131072x4x32, .f32⟩
  | 96 => ⟨S_, .f32⟩
  | 97 => ⟨S131072x4x32, .f32⟩
  | 98 => ⟨S131072x4x32, .f32⟩
  | 99 => ⟨S1x4x32x1, .f32⟩
  | 100 => ⟨S4x32x1, .f32⟩
  | 101 => ⟨S4x1x131072, .f32⟩
  | 102 => ⟨S131072x4x1, .f32⟩
  | 103 => ⟨S1x1x4x1, .f32⟩
  | 104 => ⟨S1x4x1, .f32⟩
  | 105 => ⟨S131072x4x1, .f32⟩
  | 106 => ⟨S131072x4x1, .f32⟩
  | 107 => ⟨S131072x4x1, .f32⟩
  | 108 => ⟨S131072x4x1, .f32⟩
  | 109 => ⟨S1x4, .i32⟩
  | 110 => ⟨S4, .i32⟩
  | 111 => ⟨S_, .i32⟩
  | 112 => ⟨S4, .i32⟩
  | 113 => ⟨S4, .i1⟩
  | 114 => ⟨S_, .i32⟩
  | 115 => ⟨S4, .i32⟩
  | 116 => ⟨S4, .i32⟩
  | 117 => ⟨S4, .i32⟩
  | 118 => ⟨S4x1, .i32⟩
  | 119 => ⟨S131072x4, .i32⟩
  | 120 => ⟨S_, .i32⟩
  | 121 => ⟨S131072, .i32⟩
  | 122 => ⟨S_, .i32⟩
  | 123 => ⟨S131072, .i32⟩
  | 124 => ⟨S131072, .i1⟩
  | 125 => ⟨S131072, .f32⟩
  | 126 => ⟨S131072x1x1, .f32⟩
  | 127 => ⟨S_, .i32⟩
  | _ => ⟨S131072x24x32, .f32⟩

abbrev hbmTy0_1 (i : Nat) : BufTy := match i % 128 with
  | 0 => ⟨S4, .i32⟩
  | 1 => ⟨S4, .i1⟩
  | 2 => ⟨S_, .i32⟩
  | 3 => ⟨S4, .i32⟩
  | 4 => ⟨S4, .i32⟩
  | 5 => ⟨S4, .i32⟩
  | 6 => ⟨S4x1, .i32⟩
  | 7 => ⟨S131072x4x32, .f32⟩
  | 8 => ⟨S_, .f32⟩
  | 9 => ⟨S131072x4x32, .f32⟩
  | 10 => ⟨S131072x4x32, .f32⟩
  | 11 => ⟨S1x4x32x32, .f32⟩
  | 12 => ⟨S4x32x32, .f32⟩
  | 13 => ⟨S4x32x131072, .f32⟩
  | 14 => ⟨S131072x4x32, .f32⟩
  | 15 => ⟨S1x1x4x32, .f32⟩
  | 16 => ⟨S1x4x32, .f32⟩
  | 17 => ⟨S131072x4x32, .f32⟩
  | 18 => ⟨S131072x4x32, .f32⟩
  | 19 => ⟨S_, .f32⟩
  | 20 => ⟨S131072x4x32, .f32⟩
  | 21 => ⟨S131072x4x32, .f32⟩
  | 22 => ⟨S1x4x32x1, .f32⟩
  | 23 => ⟨S4x32x1, .f32⟩
  | 24 => ⟨S4x1x131072, .f32⟩
  | 25 => ⟨S131072x4x1, .f32⟩
  | 26 => ⟨S1x1x4x1, .f32⟩
  | 27 => ⟨S1x4x1, .f32⟩
  | 28 => ⟨S131072x4x1, .f32⟩
  | 29 => ⟨S131072x4x1, .f32⟩
  | 30 => ⟨S131072x4x1, .f32⟩
  | 31 => ⟨S131072x4x1, .f32⟩
  | 32 => ⟨S1x4, .i32⟩
  | 33 => ⟨S4, .i32⟩
  | 34 => ⟨S_, .i32⟩
  | 35 => ⟨S4, .i32⟩
  | 36 => ⟨S4, .i1⟩
  | 37 => ⟨S_, .i32⟩
  | 38 => ⟨S4, .i32⟩
  | 39 => ⟨S4, .i32⟩
  | 40 => ⟨S4, .i32⟩
  | 41 => ⟨S4x1, .i32⟩
  | 42 => ⟨S131072x4, .i32⟩
  | 43 => ⟨S_, .i32⟩
  | 44 => ⟨S131072, .i32⟩
  | 45 => ⟨S_, .i32⟩
  | 46 => ⟨S131072, .i32⟩
  | 47 => ⟨S131072, .i1⟩
  | 48 => ⟨S131072, .f32⟩
  | 49 => ⟨S131072x1x1, .f32⟩
  | 50 => ⟨S_, .i32⟩
  | 51 => ⟨S4, .i32⟩
  | 52 => ⟨S4, .i1⟩
  | 53 => ⟨S_, .i32⟩
  | 54 => ⟨S4, .i32⟩
  | 55 => ⟨S4, .i32⟩
  | 56 => ⟨S4, .i32⟩
  | 57 => ⟨S4x1, .i32⟩
  | 58 => ⟨S131072x4x32, .f32⟩
  | 59 => ⟨S_, .f32⟩
  | 60 => ⟨S131072x4x32, .f32⟩
  | 61 => ⟨S131072x4x32, .f32⟩
  | 62 => ⟨S1x4x32x32, .f32⟩
  | 63 => ⟨S4x32x32, .f32⟩
  | 64 => ⟨S4x32x131072, .f32⟩
  | 65 => ⟨S131072x4x32, .f32⟩
  | 66 => ⟨S1x1x4x32, .f32⟩
  | 67 => ⟨S1x4x32, .f32⟩
  | 68 => ⟨S131072x4x32, .f32⟩
  | 69 => ⟨S131072x4x32, .f32⟩
  | 70 => ⟨S_, .f32⟩
  | 71 => ⟨S131072x4x32, .f32⟩
  | 72 => ⟨S131072x4x32, .f32⟩
  | 73 => ⟨S1x4x32x1, .f32⟩
  | 74 => ⟨S4x32x1, .f32⟩
  | 75 => ⟨S4x1x131072, .f32⟩
  | 76 => ⟨S131072x4x1, .f32⟩
  | 77 => ⟨S1x1x4x1, .f32⟩
  | 78 => ⟨S1x4x1, .f32⟩
  | 79 => ⟨S131072x4x1, .f32⟩
  | 80 => ⟨S131072x4x1, .f32⟩
  | 81 => ⟨S131072x4x1, .f32⟩
  | 82 => ⟨S131072x4x1, .f32⟩
  | 83 => ⟨S1x4, .i32⟩
  | 84 => ⟨S4, .i32⟩
  | 85 => ⟨S_, .i32⟩
  | 86 => ⟨S4, .i32⟩
  | 87 => ⟨S4, .i1⟩
  | 88 => ⟨S_, .i32⟩
  | 89 => ⟨S4, .i32⟩
  | 90 => ⟨S4, .i32⟩
  | 91 => ⟨S4, .i32⟩
  | 92 => ⟨S4x1, .i32⟩
  | 93 => ⟨S131072x4, .i32⟩
  | 94 => ⟨S_, .i32⟩
  | 95 => ⟨S131072, .i32⟩
  | 96 => ⟨S_, .i32⟩
  | 97 => ⟨S131072, .i32⟩
  | 98 => ⟨S131072, .i1⟩
  | 99 => ⟨S131072, .f32⟩
  | 100 => ⟨S131072x1x1, .f32⟩
  | 101 => ⟨S_, .i32⟩
  | 102 => ⟨S4, .i32⟩
  | 103 => ⟨S4, .i1⟩
  | 104 => ⟨S_, .i32⟩
  | 105 => ⟨S4, .i32⟩
  | 106 => ⟨S4, .i32⟩
  | 107 => ⟨S4, .i32⟩
  | 108 => ⟨S4x1, .i32⟩
  | 109 => ⟨S131072x4x32, .f32⟩
  | 110 => ⟨S_, .f32⟩
  | 111 => ⟨S131072x4x32, .f32⟩
  | 112 => ⟨S131072x4x32, .f32⟩
  | 113 => ⟨S1x4x32x32, .f32⟩
  | 114 => ⟨S4x32x32, .f32⟩
  | 115 => ⟨S4x32x131072, .f32⟩
  | 116 => ⟨S131072x4x32, .f32⟩
  | 117 => ⟨S1x1x4x32, .f32⟩
  | 118 => ⟨S1x4x32, .f32⟩
  | 119 => ⟨S131072x4x32, .f32⟩
  | 120 => ⟨S131072x4x32, .f32⟩
  | 121 => ⟨S_, .f32⟩
  | 122 => ⟨S131072x4x32, .f32⟩
  | 123 => ⟨S131072x4x32, .f32⟩
  | 124 => ⟨S1x4x32x1, .f32⟩
  | 125 => ⟨S4x32x1, .f32⟩
  | 126 => ⟨S4x1x131072, .f32⟩
  | 127 => ⟨S131072x4x1, .f32⟩
  | _ => ⟨S131072x24x32, .f32⟩

abbrev hbmTy0_2 (i : Nat) : BufTy := match i % 128 with
  | 0 => ⟨S1x1x4x1, .f32⟩
  | 1 => ⟨S1x4x1, .f32⟩
  | 2 => ⟨S131072x4x1, .f32⟩
  | 3 => ⟨S131072x4x1, .f32⟩
  | 4 => ⟨S131072x4x1, .f32⟩
  | 5 => ⟨S131072x4x1, .f32⟩
  | 6 => ⟨S1x4, .i32⟩
  | 7 => ⟨S4, .i32⟩
  | 8 => ⟨S_, .i32⟩
  | 9 => ⟨S4, .i32⟩
  | 10 => ⟨S4, .i1⟩
  | 11 => ⟨S_, .i32⟩
  | 12 => ⟨S4, .i32⟩
  | 13 => ⟨S4, .i32⟩
  | 14 => ⟨S4, .i32⟩
  | 15 => ⟨S4x1, .i32⟩
  | 16 => ⟨S131072x4, .i32⟩
  | 17 => ⟨S_, .i32⟩
  | 18 => ⟨S131072, .i32⟩
  | 19 => ⟨S_, .i32⟩
  | 20 => ⟨S131072, .i32⟩
  | 21 => ⟨S131072, .i1⟩
  | 22 => ⟨S131072, .f32⟩
  | 23 => ⟨S131072x1x1, .f32⟩
  | 24 => ⟨S_, .i32⟩
  | 25 => ⟨S4, .i32⟩
  | 26 => ⟨S4, .i1⟩
  | 27 => ⟨S_, .i32⟩
  | 28 => ⟨S4, .i32⟩
  | 29 => ⟨S4, .i32⟩
  | 30 => ⟨S4, .i32⟩
  | 31 => ⟨S4x1, .i32⟩
  | 32 => ⟨S131072x4x32, .f32⟩
  | 33 => ⟨S_, .f32⟩
  | 34 => ⟨S131072x4x32, .f32⟩
  | 35 => ⟨S131072x4x32, .f32⟩
  | 36 => ⟨S1x4x32x32, .f32⟩
  | 37 => ⟨S4x32x32, .f32⟩
  | 38 => ⟨S4x32x131072, .f32⟩
  | 39 => ⟨S131072x4x32, .f32⟩
  | 40 => ⟨S1x1x4x32, .f32⟩
  | 41 => ⟨S1x4x32, .f32⟩
  | 42 => ⟨S131072x4x32, .f32⟩
  | 43 => ⟨S131072x4x32, .f32⟩
  | 44 => ⟨S_, .f32⟩
  | 45 => ⟨S131072x4x32, .f32⟩
  | 46 => ⟨S131072x4x32, .f32⟩
  | 47 => ⟨S1x4x32x1, .f32⟩
  | 48 => ⟨S4x32x1, .f32⟩
  | 49 => ⟨S4x1x131072, .f32⟩
  | 50 => ⟨S131072x4x1, .f32⟩
  | 51 => ⟨S1x1x4x1, .f32⟩
  | 52 => ⟨S1x4x1, .f32⟩
  | 53 => ⟨S131072x4x1, .f32⟩
  | 54 => ⟨S131072x4x1, .f32⟩
  | 55 => ⟨S131072x4x1, .f32⟩
  | 56 => ⟨S131072x4x1, .f32⟩
  | 57 => ⟨S131072x1x4x1, .f32⟩
  | 58 => ⟨S131072x1x4x1, .f32⟩
  | 59 => ⟨S131072x1x4x1, .f32⟩
  | 60 => ⟨S131072x1x4x1, .f32⟩
  | 61 => ⟨S131072x1x4x1, .f32⟩
  | 62 => ⟨S131072x1x4x1, .f32⟩
  | 63 => ⟨S131072x6x4x1, .f32⟩
  | 64 => ⟨S131072x24x1, .f32⟩
  | 65 => ⟨S24, .i32⟩
  | 66 => ⟨S_, .f32⟩
  | 67 => ⟨S131072x24x1, .f32⟩
  | 68 => ⟨S_, .i32⟩
  | 69 => ⟨S24, .i32⟩
  | 70 => ⟨S24, .i1⟩
  | 71 => ⟨S_, .i32⟩
  | 72 => ⟨S24, .i32⟩
  | 73 => ⟨S24, .i32⟩
  | 74 => ⟨S24, .i32⟩
  | 75 => ⟨S24x1, .i32⟩
  | 76 => ⟨S131072x24x1, .f32⟩
  | _ => ⟨S131072x24x32, .f32⟩

abbrev hbmTy (i : Nat) : BufTy := match i / 128 with
  | 0 => hbmTy0_0 i
  | 1 => hbmTy0_1 i
  | 2 => hbmTy0_2 i
  | _ => ⟨S131072x24x32, .f32⟩

abbrev bufTy : (tb : Table) → Fin (tcTables nBuf tb) → BufTy
  | .hbm, ⟨i, _⟩ => hbmTy i
  | _, _ => ⟨S131072x24x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_cst : Ref sig .tc := ⟨.hbm, 85, rfl⟩
abbrev main_call2_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call3_cst : Ref sig .tc := ⟨.hbm, 96, rfl⟩
abbrev main_call3_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_12 : Ref sig .tc := ⟨.hbm, 111, rfl⟩
abbrev main_v84 : Ref sig .tc := ⟨.hbm, 112, rfl⟩
abbrev main_v85 : Ref sig .tc := ⟨.hbm, 113, rfl⟩
abbrev main_c_13 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_14 : Ref sig .tc := ⟨.hbm, 120, rfl⟩
abbrev main_v91 : Ref sig .tc := ⟨.hbm, 121, rfl⟩
abbrev main_c_15 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_16 : Ref sig .tc := ⟨.hbm, 127, rfl⟩
abbrev main_v96 : Ref sig .tc := ⟨.hbm, 128, rfl⟩
abbrev main_v97 : Ref sig .tc := ⟨.hbm, 129, rfl⟩
abbrev main_c_17 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call4_cst : Ref sig .tc := ⟨.hbm, 136, rfl⟩
abbrev main_call4_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call5_cst : Ref sig .tc := ⟨.hbm, 147, rfl⟩
abbrev main_call5_v0 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_18 : Ref sig .tc := ⟨.hbm, 162, rfl⟩
abbrev main_v125 : Ref sig .tc := ⟨.hbm, 163, rfl⟩
abbrev main_v126 : Ref sig .tc := ⟨.hbm, 164, rfl⟩
abbrev main_c_19 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_20 : Ref sig .tc := ⟨.hbm, 171, rfl⟩
abbrev main_v132 : Ref sig .tc := ⟨.hbm, 172, rfl⟩
abbrev main_c_21 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_c_22 : Ref sig .tc := ⟨.hbm, 178, rfl⟩
abbrev main_v137 : Ref sig .tc := ⟨.hbm, 179, rfl⟩
abbrev main_v138 : Ref sig .tc := ⟨.hbm, 180, rfl⟩
abbrev main_c_23 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_call6_cst : Ref sig .tc := ⟨.hbm, 187, rfl⟩
abbrev main_call6_v0 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_call7_cst : Ref sig .tc := ⟨.hbm, 198, rfl⟩
abbrev main_call7_v0 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_c_24 : Ref sig .tc := ⟨.hbm, 213, rfl⟩
abbrev main_v166 : Ref sig .tc := ⟨.hbm, 214, rfl⟩
abbrev main_v167 : Ref sig .tc := ⟨.hbm, 215, rfl⟩
abbrev main_c_25 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_c_26 : Ref sig .tc := ⟨.hbm, 222, rfl⟩
abbrev main_v173 : Ref sig .tc := ⟨.hbm, 223, rfl⟩
abbrev main_c_27 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_c_28 : Ref sig .tc := ⟨.hbm, 229, rfl⟩
abbrev main_v178 : Ref sig .tc := ⟨.hbm, 230, rfl⟩
abbrev main_v179 : Ref sig .tc := ⟨.hbm, 231, rfl⟩
abbrev main_c_29 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_call8_cst : Ref sig .tc := ⟨.hbm, 238, rfl⟩
abbrev main_call8_v0 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_call9_cst : Ref sig .tc := ⟨.hbm, 249, rfl⟩
abbrev main_call9_v0 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_c_30 : Ref sig .tc := ⟨.hbm, 264, rfl⟩
abbrev main_v207 : Ref sig .tc := ⟨.hbm, 265, rfl⟩
abbrev main_v208 : Ref sig .tc := ⟨.hbm, 266, rfl⟩
abbrev main_c_31 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_c_32 : Ref sig .tc := ⟨.hbm, 273, rfl⟩
abbrev main_v214 : Ref sig .tc := ⟨.hbm, 274, rfl⟩
abbrev main_c_33 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_c_34 : Ref sig .tc := ⟨.hbm, 280, rfl⟩
abbrev main_v219 : Ref sig .tc := ⟨.hbm, 281, rfl⟩
abbrev main_v220 : Ref sig .tc := ⟨.hbm, 282, rfl⟩
abbrev main_c_35 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_call10_cst : Ref sig .tc := ⟨.hbm, 289, rfl⟩
abbrev main_call10_v0 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_call11_cst : Ref sig .tc := ⟨.hbm, 300, rfl⟩
abbrev main_call11_v0 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_cst : Ref sig .tc := ⟨.hbm, 322, rfl⟩
abbrev main_v255 : Ref sig .tc := ⟨.hbm, 323, rfl⟩
abbrev main_c_36 : Ref sig .tc := ⟨.hbm, 324, rfl⟩
abbrev main_v256 : Ref sig .tc := ⟨.hbm, 325, rfl⟩
abbrev main_v257 : Ref sig .tc := ⟨.hbm, 326, rfl⟩
abbrev main_c_37 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩

abbrev nD : Nat := 1
abbrev τ : Topo := Topo.v7x

variable {F : FTy → Type} [FloatOps F]
-- ==== Proof.Spec.lean ====
/-
  The function both programs compute, at one output element, over the extended reals.

  A node `j` of the 24 belongs to a group: its slot `slot j` is 4 · (group) + (place within the group).
-/
module

public import proofs.«01_k».proof.Proof.Gen.ReferenceIdeal
public import proofs.«01_k».proof.Proof.Gen.KernelIdeal
public import Idealize.ShloMosaic.Lib.Pointwise
public import Mathlib.Data.EReal.Operations

@[expose] public section

set_option maxRecDepth 16384

noncomputable section

open Idealize.ShloMosaic

namespace Cert.Heads

/-- Where each node sits in the list of groups: 4 · (its group) + (its place within the group). -/
def slot : Fin 24 → Fin 24 := ![0, 4, 8, 1, 5, 9, 2, 6, 10, 3, 7, 11, 12, 13, 14, 15, 16, 20, 17, 21, 18, 22, 19, 23]

/-- The node at a slot, the inverse of `slot`. -/
def node : Fin 24 → Fin 24 := ![0, 3, 6, 9, 1, 4, 7, 10, 2, 5, 8, 11, 12, 13, 14, 15, 16, 18, 20, 22, 17, 19, 21, 23]

/-- The group of a slot. -/
def grp (q : Fin 24) : Fin 6 := ⟨q.val / 4, by omega⟩

/-- The place of a slot within its group. -/
def plc (q : Fin 24) : Fin 4 := ⟨q.val % 4, by omega⟩

/-- The node at a node's place is the node. -/
theorem node_slot : ∀ j : Fin 24, node (slot j) = j := by decide

/-- The place of the node at a place is the place. -/
theorem slot_node : ∀ q : Fin 24, slot (node q) = q := by decide

/-- The node at a place of a group. -/
def nodeAt (g : Fin 6) (k : Fin 4) : Fin 24 := node ⟨g.val * 4 + k.val, by omega⟩

/-- The node at a group and a place is of that group. -/
theorem grp_nodeAt : ∀ g k, grp (slot (nodeAt g k)) = g := by decide

/-- The node at a group and a place has that place. -/
theorem plc_nodeAt : ∀ g k, plc (slot (nodeAt g k)) = k := by decide

/-- A node is the node at its own group and place. -/
theorem nodeAt_slot : ∀ j, nodeAt (grp (slot j)) (plc (slot j)) = j := by decide

/-- A 32-bit word holding a node's number, read signed and clamped to 0 … 23, is the node's number. -/
theorem clamp : ∀ v : Fin 24, min (BitVec.ofNat 32 v.val).toInt.toNat 23 = v.val := by decide

/-- The two-layer head of one node: `Σ w2 · relu(Σ w1 · relu(x) + b1) + b2`. -/
def head (x : Fin 32 → EReal) (w1 : Fin 32 → Fin 32 → EReal) (b1 w2 : Fin 32 → EReal) (b2 : EReal) : EReal :=
  (∑ w, w2 w * max ((∑ l, w1 l w * max (x l) 0) + b1 w) 0) + b2

/-- Some node of the group of `j` is flagged by `v`. -/
def Live (v : Fin 24 → BitVec 32) (j : Fin 24) : Prop := ∃ j', grp (slot j') = grp (slot j) ∧ v j' = 1#32

/-- A group is live exactly when one of its four places is flagged. -/
theorem live_nodeAt (v : Fin 24 → BitVec 32) (g : Fin 6) (k : Fin 4) : Live v (nodeAt g k) ↔ ∃ k', v (nodeAt g k') = 1#32 := by
  constructor
  · rintro ⟨j', hg, hv⟩
    rw [grp_nodeAt] at hg
    exact ⟨plc (slot j'), by rw [← hg, nodeAt_slot]; exact hv⟩
  · rintro ⟨k', hv⟩
    exact ⟨nodeAt g k', by rw [grp_nodeAt, grp_nodeAt], hv⟩

/-- With four flags 0 or 1, the integer sum of the flags is positive exactly when some flag is 1. -/
theorem flags_pos (u : Fin 4 → BitVec 32) (hu : ∀ k, u k = 0#32 ∨ u k = 1#32) [Decidable (∃ k, u k = 1#32)] :
    IntOp.cmpi CmpIPredicate.sgt (Finset.fold IntOp.addi (0#32) u Finset.univ) 0#32 = if ∃ k, u k = 1#32 then 1#1 else 0#1 := by
  have key : ∀ f : Fin 4 → Bool, IntOp.cmpi CmpIPredicate.sgt (Finset.fold IntOp.addi (0#32) (fun k => if f k then 1#32 else 0#32) Finset.univ) 0#32
      = if ∃ k, f k = true then 1#1 else 0#1 := by decide +kernel
  have e : u = fun k => if (decide (u k = 1#32)) = true then 1#32 else 0#32 := funext fun k => by
    rcases hu k with h | h <;> rw [h] <;> decide
  have hk := key fun k => decide (u k = 1#32)
  rw [← e] at hk
  rw [hk]
  simp only [decide_eq_true_eq]

open Classical in
/-- The result at one sample and node: the head of the node where its group is flagged, else 0. -/
def out (h : Fin 24 → Fin 32 → EReal) (v : Fin 24 → BitVec 32) (W1 : Fin 6 → Fin 4 → Fin 32 → Fin 32 → EReal)
    (b1 W2 : Fin 6 → Fin 4 → Fin 32 → EReal) (b2 : Fin 6 → Fin 4 → EReal) (j : Fin 24) : EReal :=
  if Live v j then
    head (h j) (W1 (grp (slot j)) (plc (slot j))) (b1 (grp (slot j)) (plc (slot j))) (W2 (grp (slot j)) (plc (slot j)))
      (b2 (grp (slot j)) (plc (slot j)))
  else 0

/-- A sum over `n · 32` places whose terms vanish off block `a` is the sum over that block's 32 places. -/
theorem sum_block {n : ℕ} (f : Fin (n * 32) → EReal) (a : Fin n) (hz : ∀ k : Fin (n * 32), k.val / 32 ≠ a.val → f k = 0) :
    ∑ k, f k = ∑ l : Fin 32, f ⟨a.val * 32 + l.val, by have := a.isLt; have := l.isLt; nlinarith⟩ := by
  rw [← finProdFinEquiv.sum_comp, Fintype.sum_prod_type, Finset.sum_eq_single a]
  · refine Finset.sum_congr rfl fun l _ => congrArg f (Fin.ext ?_)
    show l.val + 32 * a.val = a.val * 32 + l.val
    omega
  · intro b _ hb
    refine Finset.sum_eq_zero fun l _ => hz _ ?_
    show (l.val + 32 * b.val) / 32 ≠ a.val
    have := l.isLt
    have hb' : b.val ≠ a.val := fun e => hb (Fin.ext e)
    omega
  · intro h; exact absurd (Finset.mem_univ a) h

/-- One row of a block-diagonal first layer: the sum over 256 places is the sum over the row's own 32. -/
theorem layer (w1 : Fin 32 → Fin 32 → EReal) (x : Fin 32 → EReal) (f X : Fin 256 → EReal) (r : Fin 256)
    (hf : ∀ k, f k = w1 ⟨k.val % 32, by omega⟩ ⟨r.val % 32, by omega⟩ * (if k.val / 32 = r.val / 32 then (1 : EReal) else 0))
    (hx : ∀ k, k.val / 32 = r.val / 32 → X k = max (x ⟨k.val % 32, by omega⟩) 0) :
    ∑ k, f k * X k = ∑ l, w1 l ⟨r.val % 32, by omega⟩ * max (x l) 0 := by
  refine (sum_block (n := 8) (fun k => f k * X k) ⟨r.val / 32, by omega⟩ fun k hk => ?_).trans
    (Finset.sum_congr rfl fun l _ => ?_)
  · show f k * X k = 0
    rw [hf, if_neg hk, mul_zero, zero_mul]
  · have hl := l.isLt
    have e1 : (r.val / 32 * 32 + l.val) / 32 = r.val / 32 := by omega
    have e2 : (⟨(r.val / 32 * 32 + l.val) % 32, by omega⟩ : Fin 32) = l := Fin.ext (by show _ % 32 = _; omega)
    show f ⟨r.val / 32 * 32 + l.val, _⟩ * X ⟨r.val / 32 * 32 + l.val, _⟩ = _
    rw [hf, hx _ e1, if_pos e1, mul_one]
    show w1 ⟨(r.val / 32 * 32 + l.val) % 32, _⟩ _ * max (x ⟨(r.val / 32 * 32 + l.val) % 32, _⟩) 0 = _
    rw [e2]

/-- One row of the second layer laid out by node: the sum over 768 places is the sum over the node's own 32. -/
theorem layer2 (w2 x : Fin 32 → EReal) (f X : Fin 768 → EReal) (j : Fin 24)
    (hf : ∀ p, f p = w2 ⟨p.val % 32, by omega⟩ * (if p.val / 32 = j.val then (1 : EReal) else 0))
    (hx : ∀ p, p.val / 32 = j.val → X p = x ⟨p.val % 32, by omega⟩) :
    ∑ p, f p * X p = ∑ w, w2 w * x w := by
  refine (sum_block (n := 24) (fun p => f p * X p) j fun p hp => ?_).trans (Finset.sum_congr rfl fun l _ => ?_)
  · show f p * X p = 0
    rw [hf, if_neg hp, mul_zero, zero_mul]
  · have hl := l.isLt
    have e1 : (j.val * 32 + l.val) / 32 = j.val := by omega
    have e2 : (⟨(j.val * 32 + l.val) % 32, by omega⟩ : Fin 32) = l := Fin.ext (by show _ % 32 = _; omega)
    show f ⟨j.val * 32 + l.val, _⟩ * X ⟨j.val * 32 + l.val, _⟩ = _
    rw [hf, hx _ e1, if_pos e1, mul_one]
    show w2 ⟨(j.val * 32 + l.val) % 32, _⟩ * x ⟨(j.val * 32 + l.val) % 32, _⟩ = _
    rw [e2]

/-- With flags 0 or 1, the masked sum of the flags is positive exactly when some node of the group is flagged. -/
theorem masked_pos (v : Fin 24 → BitVec 32) (hv : ∀ j, v j = 0#32 ∨ v j = 1#32) (j : Fin 24) :
    0 < ∑ j', (if grp (slot j') = grp (slot j) then (1 : EReal) else 0) * (FloatOps.sitofp FTy.f32 (v j') : Ideal .f32) ↔ Live v j := by
  have h1 : (FloatOps.sitofp FTy.f32 (1#32) : Ideal .f32) = (1 : EReal) := by
    show (((1#32 : BitVec 32).toInt : ℝ) : EReal) = 1
    norm_num
  have h0 : (FloatOps.sitofp FTy.f32 (0#32) : Ideal .f32) = (0 : EReal) := by
    show (((0#32 : BitVec 32).toInt : ℝ) : EReal) = 0
    norm_num
  have e : ∀ j', (if grp (slot j') = grp (slot j) then (1 : EReal) else 0) * (FloatOps.sitofp FTy.f32 (v j') : Ideal .f32)
      = if grp (slot j') = grp (slot j) ∧ v j' = 1#32 then (1 : EReal) else 0 := fun j' => by
    rcases hv j' with h | h
    · rw [h, if_neg (c := grp (slot j') = grp (slot j) ∧ 0#32 = 1#32) (fun q => absurd q.2 (by decide))]
      exact (congrArg _ h0).trans (mul_zero _)
    · rw [h]
      refine (congrArg _ h1).trans ((mul_one _).trans ?_)
      by_cases hg : grp (slot j') = grp (slot j)
      · rw [if_pos hg, if_pos ⟨hg, rfl⟩]
      · rw [if_neg hg, if_neg fun q => hg q.1]
  refine (iff_of_eq (congrArg (fun z : EReal => 0 < z) (Finset.sum_congr rfl fun j' _ => e j'))).trans ?_
  have hn : ∀ j' ∈ (Finset.univ : Finset (Fin 24)), (0 : EReal) ≤ if grp (slot j') = grp (slot j) ∧ v j' = 1#32 then (1 : EReal) else 0 :=
    fun j' _ => by split; exacts [zero_le_one, le_rfl]
  constructor
  · intro h
    by_contra hL
    refine absurd (Finset.sum_eq_zero fun j' _ => ?_) h.ne'
    exact if_neg fun q => hL ⟨j', q⟩
  · rintro ⟨j', hj⟩
    refine lt_of_lt_of_le ?_ (Finset.single_le_sum hn (Finset.mem_univ j'))
    rw [if_pos hj]
    exact zero_lt_one

end Cert.Heads
-- ==== Proof.KernelHost.lean ====
/-
  What the arrays handed to the kernel's region hold, element by element, in terms of the program's arguments.
-/
module

public import proofs.«01_k».proof.Proof.Spec
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem Cert.Heads

namespace Cert.KernelIdeal.Value

open Cert.KernelIdeal Cert.KernelIdeal.Gen

/-- The take of whole 32 × 32 tables: the table named by the index word. -/
theorem take_tables {α : Type} (x : S24x32x32.Idx → α) (idx : IVec S24x1 32) (q : Fin 24) (r c : Fin 32) (v : Fin 24)
    (hv : idx (ix2 q (0 : Fin 1)) = BitVec.ofNat 32 v.val) :
    Host.gather gather_S24x32x32_S24x1_S24x32x32_12_0_n_n_0_1_13232 x idx (ix3 q r c) = x (ix3 v r c) := by
  unfold Host.gather
  refine congrArg x (funext fun a => Fin.ext ?_)
  have hs : ∀ k, gather_S24x32x32_S24x1_S24x32x32_12_0_n_n_0_1_13232.siIdx (ix3 q r c) k = ix2 q (0 : Fin 1) := fun k =>
    funext fun b => match b with
      | ⟨0, _⟩ => rfl
      | ⟨1, _⟩ => Fin.ext (by have := k.isLt; show k.val = 0; change k.val < 1 at this; omega)
  match a with
  | ⟨0, _⟩ =>
    show min (idx (gather_S24x32x32_S24x1_S24x32x32_12_0_n_n_0_1_13232.siIdx (ix3 q r c) ⟨0, by decide⟩)).toInt.toNat 23 + 0 + 0 = v.val
    rw [hs, hv]; exact clamp v
  | ⟨1, _⟩ => show 0 + 0 + r.val = r.val; omega
  | ⟨2, _⟩ => show 0 + 0 + c.val = c.val; omega

/-- The take of rows of 32: the row named by the index word. -/
theorem take_rows {α : Type} (x : S24x32.Idx → α) (idx : IVec S24x1 32) (q : Fin 24) (c : Fin 32) (v : Fin 24)
    (hv : idx (ix2 q (0 : Fin 1)) = BitVec.ofNat 32 v.val) :
    Host.gather gather_S24x32_S24x1_S24x32_1_0_n_n_0_1_132 x idx (ix2 q c) = x (ix2 v c) := by
  unfold Host.gather
  refine congrArg x (funext fun a => Fin.ext ?_)
  have hs : ∀ k, gather_S24x32_S24x1_S24x32_1_0_n_n_0_1_132.siIdx (ix2 q c) k = ix2 q (0 : Fin 1) := fun k =>
    funext fun b => match b with
      | ⟨0, _⟩ => rfl
      | ⟨1, _⟩ => Fin.ext (by have := k.isLt; show k.val = 0; change k.val < 1 at this; omega)
  match a with
  | ⟨0, _⟩ =>
    show min (idx (gather_S24x32_S24x1_S24x32_1_0_n_n_0_1_132.siIdx (ix2 q c) ⟨0, by decide⟩)).toInt.toNat 23 + 0 + 0 = v.val
    rw [hs, hv]; exact clamp v
  | ⟨1, _⟩ => show 0 + 0 + c.val = c.val; omega

/-- The take of scalars: the entry named by the index word. -/
theorem take_scalars {α : Type} (x : S24.Idx → α) (idx : IVec S24x1 32) (q : Fin 24) (v : Fin 24)
    (hv : idx (ix2 q (0 : Fin 1)) = BitVec.ofNat 32 v.val) :
    Host.gather gather_S24_S24x1_S24_n_0_n_n_0_1_1 x idx (ix1 q) = x (ix1 v) := by
  unfold Host.gather
  refine congrArg x (funext fun a => Fin.ext ?_)
  have hs : ∀ k, gather_S24_S24x1_S24_n_0_n_n_0_1_1.siIdx (ix1 q) k = ix2 q (0 : Fin 1) := fun k =>
    funext fun b => match b with
      | ⟨0, _⟩ => rfl
      | ⟨1, _⟩ => Fin.ext (by have := k.isLt; show k.val = 0; change k.val < 1 at this; omega)
  match a with
  | ⟨0, _⟩ =>
    show min (idx (gather_S24_S24x1_S24_n_0_n_n_0_1_1.siIdx (ix1 q) ⟨0, by decide⟩)).toInt.toNat 23 + 0 + 0 = v.val
    rw [hs, hv]; exact clamp v

/-- The kernel's table of places lists `slot j` at `j`. -/
theorem lit0_slot : ∀ j : Fin 24, lit0 j = BitVec.ofNat 32 (slot j).val := by decide

/-- The 0/1 entries of the group table: 1 exactly where the two nodes share a group. -/
theorem lit1_grp : ∀ j j' : Fin 24, lit1 ⟨j.val * 24 + j'.val, by omega⟩
    = if grp (slot j') = grp (slot j) then 0x3F800000#32 else 0#32 := by decide +kernel

/-- The index words of the kernel's takes: the slot of each node. -/
theorem words_at (j : Fin 24) :
    (broadcastInDim S24x1 ![0] bcast_S24_S24x1_0 (select (constantI S24 1 0#1)
      (addi (fun i => lit0 (S24.rowMajor i)) (broadcastInDim S24 ![] bcast_S_S24 (constantI S_ 32 24#32)))
      fun i => lit0 (S24.rowMajor i)) : IVec S24x1 32) (ix2 j (0 : Fin 1)) = BitVec.ofNat 32 (slot j).val := by
  rw [← lit0_slot j]
  have h : S24.rowMajor (ix1 j) = j := Fin.ext (rowMajor_val1 (ix1 j))
  pointwise
  rw [h]

/-- An entry of an identity matrix: 1 where the two coordinates agree. -/
theorem eye_at (a b : ℕ) (ha : a < 24) (hb : b < 24) :
    (FloatOps.uitofp FTy.f32 (IntOp.cmpi CmpIPredicate.eq (IntOp.addi (BitVec.ofNat 32 a) 0#32) (BitVec.ofNat 32 b)) : Ideal .f32)
      = if b = a then (1 : EReal) else 0 := by
  have h : ∀ a b : Fin 24, IntOp.cmpi CmpIPredicate.eq (IntOp.addi (BitVec.ofNat 32 a.val) 0#32) (BitVec.ofNat 32 b.val)
      = if b.val = a.val then 1#1 else 0#1 := by decide +kernel
  rw [h ⟨a, ha⟩ ⟨b, hb⟩]
  split
  · show ((((1#1 : BitVec 1).toNat : ℝ)) : EReal) = 1
    norm_num
  · show ((((0#1 : BitVec 1).toNat : ℝ)) : EReal) = 0
    norm_num

variable (m : (ℓ : Loc nD τ sig) → Buf (Elt Ideal) ℓ)

/-- The features, at sample, node and lane. -/
abbrev aH (c : Dev nD) (s : Fin 131072) (j : Fin 24) (l : Fin 32) : EReal := m (c, Proc.devRef .tc main_arg0) (ix3 s j l)
/-- The flags, at sample and node. -/
abbrev aV (c : Dev nD) (s : Fin 131072) (j : Fin 24) : BitVec 32 := m (c, Proc.devRef .tc main_arg1) (ix2 s j)
/-- The first layer's weights. -/
abbrev aW1 (c : Dev nD) (g : Fin 6) (k : Fin 4) (l w : Fin 32) : EReal := m (c, Proc.devRef .tc main_arg2) (ix4 g k l w)
/-- The first layer's biases. -/
abbrev aB1 (c : Dev nD) (g : Fin 6) (k : Fin 4) (w : Fin 32) : EReal := m (c, Proc.devRef .tc main_arg3) (ix4 g (0 : Fin 1) k w)
/-- The second layer's weights. -/
abbrev aW2 (c : Dev nD) (g : Fin 6) (k : Fin 4) (w : Fin 32) : EReal := m (c, Proc.devRef .tc main_arg4) (ix4 g k w (0 : Fin 1))
/-- The second layer's biases. -/
abbrev aB2 (c : Dev nD) (g : Fin 6) (k : Fin 4) : EReal := m (c, Proc.devRef .tc main_arg5) (ix4 g (0 : Fin 1) k (0 : Fin 1))

/-- The flattened, transposed features. -/
theorem h2_at (c : Dev nD) (r : Fin 768) (s : Fin 131072) :
    V m c main_v54 (ix2 r s) = aH m c s ⟨r.val / 32, by omega⟩ ⟨r.val % 32, by omega⟩ := by
  unfold V; after_reads_at

/-- The transposed flags. -/
theorem val_at (c : Dev nD) (j : Fin 24) (s : Fin 131072) : V m c main_v55 (ix2 j s) = aV m c s j := by
  unfold V; after_reads_at

/-- The block-diagonal first-layer weights. -/
theorem bd_at (c : Dev nD) (b : Fin 3) (r k : Fin 256) (j : Fin 24) (hj : j.val = b.val * 8 + r.val / 32) :
    V m c main_v56 (ix3 b r k) = aW1 m c (grp (slot j)) (plc (slot j)) ⟨k.val % 32, by omega⟩ ⟨r.val % 32, by omega⟩
      * (if k.val / 32 = r.val / 32 then (1 : EReal) else 0) := by
  unfold V; after_reads_at
  have hq : (⟨b.val * 8 + r.val / 32, by omega⟩ : Fin 24) = j := Fin.ext hj.symm
  rw [hq]
  refine congrArg₂ (fun a b : EReal => a * b) ((take_tables _ _ _ _ _ (slot j) (words_at j)).trans ?_) (eye_at _ _ (by omega) (by omega))
  rfl

/-- The first layer's bias column holds, at row `r` of block `b`, the bias of node `8 b + r / 32` at width `r % 32`. -/
theorem b1_at (c : Dev nD) (b : Fin 3) (r : Fin 256) (j : Fin 24) (hj : j.val = b.val * 8 + r.val / 32) :
    V m c main_v26 (ix3 b r (0 : Fin 1)) = aB1 m c (grp (slot j)) (plc (slot j)) ⟨r.val % 32, by omega⟩ := by
  unfold V; after_reads_at
  have hq : (⟨b.val * 8 + r.val / 32, by omega⟩ : Fin 24) = j := Fin.ext hj.symm
  rw [hq]
  refine (take_rows _ _ _ _ (slot j) (words_at j)).trans ?_
  rfl

/-- Times the identity, the second weights are kept where the column is the row's own node and are 0 elsewhere. -/
theorem w2_raw (c : Dev nD) (j : Fin 24) (p : Fin 768) (q : Fin 24) (hq : q.val = p.val / 32) :
    V m c main_v57 (ix2 j p) = (if j.val = p.val / 32 then (1 : EReal) else 0) * aW2 m c (grp (slot q)) (plc (slot q)) ⟨p.val % 32, by omega⟩ := by
  unfold V; after_reads_at
  have hq' : (⟨p.val / 32, by omega⟩ : Fin 24) = q := Fin.ext hq.symm
  rw [hq']
  refine congrArg₂ (fun a b : EReal => a * b) (eye_at _ _ (by omega) (by omega)) ((take_rows _ _ _ _ (slot q) (words_at q)).trans ?_)
  rfl

/-- The second-layer weights laid out by node: row `j` is zero off node `j`'s own 32 columns. -/
theorem w2_at (c : Dev nD) (j : Fin 24) (p : Fin 768) :
    V m c main_v57 (ix2 j p) = (aW2 m c (grp (slot j)) (plc (slot j)) ⟨p.val % 32, by omega⟩
      * (if p.val / 32 = j.val then (1 : EReal) else 0) : EReal) := by
  rw [w2_raw m c j p ⟨p.val / 32, by omega⟩ rfl]
  by_cases h : p.val / 32 = j.val
  · have hq : (⟨p.val / 32, by omega⟩ : Fin 24) = j := Fin.ext h
    rw [if_pos h.symm, if_pos h, hq, mul_comm]
  · rw [if_neg fun e => h e.symm, if_neg h, zero_mul, mul_zero]

/-- The second layer's bias column holds each node's own bias. -/
theorem b2_at (c : Dev nD) (j : Fin 24) : V m c main_v52 (ix2 j (0 : Fin 1)) = aB2 m c (grp (slot j)) (plc (slot j)) := by
  unfold V; after_reads_at
  refine (take_scalars _ _ _ (slot j) (words_at j)).trans ?_
  rfl

/-- The mask table holds 1 where two nodes are of one group, else 0. -/
theorem mask_at (c : Dev nD) (j j' : Fin 24) :
    V m c main_cst (ix2 j j') = (if grp (slot j') = grp (slot j) then (1 : EReal) else 0) := by
  unfold V; after_reads_at
  have h : S24x24.rowMajor (ix2 j j') = ⟨j.val * 24 + j'.val, by show j.val * 24 + j'.val < 576; omega⟩ := Fin.ext (rowMajor_val2 (ix2 j j') 24 rfl)
  rw [h, lit1_grp]
  split
  · exact Ideal.ofBits_one_f32
  · exact Ideal.ofBits_zero_f32

end Cert.KernelIdeal.Value
-- ==== Proof.KernelValue.lean ====
/-
  What the kernel's region leaves in its output array: the result, with the sample on the last axis.
-/
module

public import proofs.«01_k».proof.Proof.KernelHost

@[expose] public section

set_option maxRecDepth 16384

noncomputable section

open Idealize.ShloMosaic Idealize.ShloMosaic.TcCoe Idealize.SL.Sem Cert.Heads
open Idealize.ShloMosaic.Pipeline (Dat)

namespace Cert.KernelIdeal.Value

open Cert.KernelIdeal Cert.KernelIdeal.Gen

variable (m : (ℓ : Loc nD τ sig) → Buf (Elt Ideal) ℓ)

/-- Where each window's block lies at a grid point: the sample axis moves with the point, everything else stands. -/
theorem idx : ∀ t : Fin cfg0.N, win0_0.index t = ![0, t.val] ∧ win0_1.index t = ![0, t.val] ∧ win0_2.index t = ![0, 0, 0]
    ∧ win0_3.index t = ![0, 0, 0] ∧ win0_4.index t = ![0, 0] ∧ win0_5.index t = ![0, 0] ∧ win0_6.index t = ![0, 0]
    ∧ win0_7.index t = ![0, 0, t.val] :=
  (by decide +kernel : ∀ t : Fin grid0.N, _)

/-- A node's hidden layer at one lane, from the node's features and its group's weights. -/
def hid (h : Fin 24 → Fin 32 → EReal) (W1 : Fin 6 → Fin 4 → Fin 32 → Fin 32 → EReal) (b1 : Fin 6 → Fin 4 → Fin 32 → EReal)
    (j : Fin 24) (w : Fin 32) : EReal :=
  max ((∑ l, W1 (grp (slot j)) (plc (slot j)) l w * max (h j l) 0) + b1 (grp (slot j)) (plc (slot j)) w) 0

section Block

variable (h : Fin 24 → Fin 32 → EReal) (W1 : Fin 6 → Fin 4 → Fin 32 → Fin 32 → EReal) (b1 : Fin 6 → Fin 4 → Fin 32 → EReal)
  (x0 : Vec Ideal S768x4096 .f32) (n : Fin 4096)
  (hx0 : ∀ p : Fin 768, x0 (ix2 p n) = h ⟨p.val / 32, by omega⟩ ⟨p.val % 32, by omega⟩)
  (x2 : Vec Ideal S1x256x256 .bf16) (x3 : Vec Ideal S1x256x1 .f32)

include hx0

/-- One row of the block-diagonal product on eight nodes' features, the eight nodes starting at `8 · b`. -/
theorem row_at (b : Fin 3) (r : Fin 256) (j : Fin 24) (hj : j.val = b.val * 8 + r.val / 32)
    (hx2 : ∀ k : Fin 256, x2 (ix3 (0 : Fin 1) r k) = (W1 (grp (slot j)) (plc (slot j)) ⟨k.val % 32, by omega⟩ ⟨r.val % 32, by omega⟩
      * (if k.val / 32 = r.val / 32 then (1 : EReal) else 0) : EReal))
    (X : Fin 256 → EReal) (hX : ∀ k : Fin 256, X k = max (x0 (ix2 (⟨b.val * 256 + k.val, by omega⟩ : Fin 768) n)) 0) :
    ∑ k : Fin 256, (x2 (ix3 (0 : Fin 1) r k) : EReal) * X k
      = ∑ l, W1 (grp (slot j)) (plc (slot j)) l ⟨r.val % 32, by omega⟩ * max (h j l) 0 :=
  layer (W1 (grp (slot j)) (plc (slot j))) (h j) _ X r hx2 fun k hk => by
    rw [hX, hx0]
    have e1 : (⟨(b.val * 256 + k.val) / 32, by omega⟩ : Fin 24) = j := Fin.ext (by show _ / 32 = _; omega)
    have e2 : (⟨(b.val * 256 + k.val) % 32, by omega⟩ : Fin 32) = ⟨k.val % 32, by omega⟩ := Fin.ext (by show _ % 32 = _ % 32; omega)
    show max (h ⟨(b.val * 256 + k.val) / 32, _⟩ ⟨(b.val * 256 + k.val) % 32, _⟩) 0 = _
    rw [e1, e2]

end Block

/-- The body's stored block at a node and a lane of the block, from what the blocks it read hold. -/
theorem point (h : Fin 24 → Fin 32 → EReal) (v : Fin 24 → BitVec 32) (W1 : Fin 6 → Fin 4 → Fin 32 → Fin 32 → EReal)
    (b1 W2 : Fin 6 → Fin 4 → Fin 32 → EReal) (b2 : Fin 6 → Fin 4 → EReal) (hv : ∀ j, v j = 0#32 ∨ v j = 1#32)
    (x0 : Vec Ideal S768x4096 .f32) (x1 : Vec Ideal S24x4096 .i32) (x2 : Fin 3 → Vec Ideal S1x256x256 .bf16)
    (x3 : Fin 3 → Vec Ideal S1x256x1 .f32) (x4 : Vec Ideal S24x768 .bf16) (x5 : Vec Ideal S24x1 .f32) (x6 : Vec Ideal S24x24 .f32)
    (n : Fin 4096)
    (hx0 : ∀ p : Fin 768, x0 (ix2 p n) = h ⟨p.val / 32, by omega⟩ ⟨p.val % 32, by omega⟩)
    (hx1 : ∀ j : Fin 24, x1 (ix2 j n) = v j)
    (hx2 : ∀ (b : Fin 3) (r k : Fin 256) (j : Fin 24), j.val = b.val * 8 + r.val / 32 → x2 b (ix3 (0 : Fin 1) r k)
      = (W1 (grp (slot j)) (plc (slot j)) ⟨k.val % 32, by omega⟩ ⟨r.val % 32, by omega⟩ * (if k.val / 32 = r.val / 32 then (1 : EReal) else 0) : EReal))
    (hx3 : ∀ (b : Fin 3) (r : Fin 256) (j : Fin 24), j.val = b.val * 8 + r.val / 32 →
      x3 b (ix3 (0 : Fin 1) r (0 : Fin 1)) = b1 (grp (slot j)) (plc (slot j)) ⟨r.val % 32, by omega⟩)
    (hx4 : ∀ (j : Fin 24) (p : Fin 768), x4 (ix2 j p)
      = (W2 (grp (slot j)) (plc (slot j)) ⟨p.val % 32, by omega⟩ * (if p.val / 32 = j.val then (1 : EReal) else 0) : EReal))
    (hx5 : ∀ j : Fin 24, x5 (ix2 j (0 : Fin 1)) = b2 (grp (slot j)) (plc (slot j)))
    (hx6 : ∀ j j' : Fin 24, x6 (ix2 j j') = (if grp (slot j') = grp (slot j) then (1 : EReal) else 0)) (j : Fin 24) :
    k0_pay1 (k0_pay3 x0 (x2 0) (x3 0)) (k0_pay4 x0 (x2 1) (x3 1)) (k0_pay5 x0 (x2 2)) (k0_pay6 (x3 2)) x4 x5 x1 x6 (ix3 j (0 : Fin 1) n)
      = out h v W1 b1 W2 b2 j := by
  -- the three pieces of the hidden layer, each at a row
  have hA : ∀ (r : Fin 256) (i : Fin 24), i.val = 0 * 8 + r.val / 32 →
      k0_pay3 x0 (x2 0) (x3 0) (ix2 r n) = hid h W1 b1 i ⟨r.val % 32, by omega⟩ := fun r i hi => by
    pointwise [k0_pay3, k0_pay2]
    rw [row_at h W1 x0 n hx0 (x2 0) 0 r i hi (fun k => hx2 0 r k i hi) _ (fun k => by congr 3; ext; simp), hx3 0 r i hi]
    rfl
  have hB : ∀ (r : Fin 256) (i : Fin 24), i.val = 1 * 8 + r.val / 32 →
      k0_pay4 x0 (x2 1) (x3 1) (ix2 r n) = hid h W1 b1 i ⟨r.val % 32, by omega⟩ := fun r i hi => by
    pointwise [k0_pay4, k0_pay2]
    rw [row_at h W1 x0 n hx0 (x2 1) 1 r i hi (fun k => hx2 1 r k i hi) _ (fun k => by congr 3), hx3 1 r i hi]
    rfl
  have hC : ∀ (r : Fin 256) (i : Fin 24), i.val = 2 * 8 + r.val / 32 →
      max ((k0_pay5 x0 (x2 2) (ix2 r n) : EReal) + k0_pay6 (x3 2) (ix2 r (0 : Fin 1))) 0 = hid h W1 b1 i ⟨r.val % 32, by omega⟩ := fun r i hi => by
    pointwise [k0_pay5, k0_pay6, k0_pay2]
    rw [row_at h W1 x0 n hx0 (x2 2) 2 r i hi (fun k => hx2 2 r k i hi) _ (fun k => by congr 3), hx3 2 r i hi]
    rfl
  generalize k0_pay3 x0 (x2 0) (x3 0) = A at *
  generalize k0_pay4 x0 (x2 1) (x3 1) = B at *
  generalize k0_pay5 x0 (x2 2) = C at *
  generalize k0_pay6 (x3 2) = D at *
  pointwise [k0_pay1]
  have hs : ∀ X : Fin 768 → EReal, (∀ p : Fin 768, p.val / 32 = j.val → X p = hid h W1 b1 j ⟨p.val % 32, by omega⟩) →
      ∑ p, (x4 (ix2 j p) : EReal) * X p = ∑ w, W2 (grp (slot j)) (plc (slot j)) w * hid h W1 b1 j w := fun X hX =>
    layer2 _ (hid h W1 b1 j) _ X j (hx4 j) hX
  have hm : ∑ j', (x6 (ix2 j j') : EReal) * (FloatOps.sitofp FTy.f32 (x1 (ix2 j' n)) : Ideal .f32)
      = ∑ j', (if grp (slot j') = grp (slot j) then (1 : EReal) else 0) * (FloatOps.sitofp FTy.f32 (v j') : Ideal .f32) :=
    Finset.sum_congr rfl fun j' _ => by rw [hx6, hx1]
  rw [hm]
  by_cases hL : Live v j
  · rw [if_pos ((masked_pos v hv j).2 hL), hs _ ?_, hx5]
    · unfold out; rw [if_pos hL]; rfl
    · intro p hp
      split
      · next h1 =>
        refine (hA _ j (by show _ = _ + p.val / 32; omega)).trans (congrArg _ (Fin.ext ?_))
        rfl
      · next h1 =>
        split
        · next h2 =>
          refine (hB _ j (by show _ = _ + (p.val - 256) / 32; omega)).trans (congrArg _ (Fin.ext ?_))
          show (p.val - 256) % 32 = p.val % 32
          omega
        · next h2 =>
          refine (hC _ j (by show _ = _ + (p.val - 256 - 256) / 32; omega)).trans (congrArg _ (Fin.ext ?_))
          show (p.val - 256 - 256) % 32 = p.val % 32
          omega
  · rw [if_neg fun q => hL ((masked_pos v hv j).1 q)]
    unfold out; rw [if_neg hL]

/-- The three loads of a 256 × 256 table, each at its own leading index. -/
theorem ld_tables (X : Vec Ideal S3x256x256 .bf16) (b : Fin 3) (r k : Fin 256) :
    (![View.ld X r0_1, View.ld X r0_3, View.ld X r0_5] : Fin 3 → Vec Ideal S1x256x256 .bf16) b (ix3 (0 : Fin 1) r k) = X (ix3 b r k) := by
  match b with
  | ⟨0, _⟩ => exact View.ld_unit_apply_of X _ _ _ _ (ix3 (0 : Fin 3) r k) fun a => by fin_cases a <;> simp [ix3]
  | ⟨1, _⟩ => exact View.ld_unit_apply_of X _ _ _ _ (ix3 (1 : Fin 3) r k) fun a => by fin_cases a <;> simp [ix3]
  | ⟨2, _⟩ => exact View.ld_unit_apply_of X _ _ _ _ (ix3 (2 : Fin 3) r k) fun a => by fin_cases a <;> simp [ix3]

/-- The three loads of a column of 256, each at its own leading index. -/
theorem ld_columns (X : Vec Ideal S3x256x1 .f32) (b : Fin 3) (r : Fin 256) :
    (![View.ld X r0_2, View.ld X r0_4, View.ld X r0_6] : Fin 3 → Vec Ideal S1x256x1 .f32) b (ix3 (0 : Fin 1) r (0 : Fin 1)) = X (ix3 b r (0 : Fin 1)) := by
  match b with
  | ⟨0, _⟩ => exact View.ld_unit_apply_of X _ _ _ _ (ix3 (0 : Fin 3) r (0 : Fin 1)) fun a => by fin_cases a <;> simp [ix3]
  | ⟨1, _⟩ => exact View.ld_unit_apply_of X _ _ _ _ (ix3 (1 : Fin 3) r (0 : Fin 1)) fun a => by fin_cases a <;> simp [ix3]
  | ⟨2, _⟩ => exact View.ld_unit_apply_of X _ _ _ _ (ix3 (2 : Fin 3) r (0 : Fin 1)) fun a => by fin_cases a <;> simp [ix3]

/-- The body's stored block at a node and a lane of the block, the two stacks of tables read where they are loaded. -/
theorem point_ld (h : Fin 24 → Fin 32 → EReal) (v : Fin 24 → BitVec 32) (W1 : Fin 6 → Fin 4 → Fin 32 → Fin 32 → EReal)
    (b1 W2 : Fin 6 → Fin 4 → Fin 32 → EReal) (b2 : Fin 6 → Fin 4 → EReal) (hv : ∀ j, v j = 0#32 ∨ v j = 1#32)
    (x0 : Vec Ideal S768x4096 .f32) (x1 : Vec Ideal S24x4096 .i32) (x2 : Vec Ideal S3x256x256 .bf16)
    (x3 : Vec Ideal S3x256x1 .f32) (x4 : Vec Ideal S24x768 .bf16) (x5 : Vec Ideal S24x1 .f32) (x6 : Vec Ideal S24x24 .f32)
    (n : Fin 4096)
    (hx0 : ∀ p : Fin 768, x0 (ix2 p n) = h ⟨p.val / 32, by omega⟩ ⟨p.val % 32, by omega⟩)
    (hx1 : ∀ j : Fin 24, x1 (ix2 j n) = v j)
    (hx2 : ∀ (b : Fin 3) (r k : Fin 256) (j : Fin 24), j.val = b.val * 8 + r.val / 32 → x2 (ix3 b r k)
      = (W1 (grp (slot j)) (plc (slot j)) ⟨k.val % 32, by omega⟩ ⟨r.val % 32, by omega⟩ * (if k.val / 32 = r.val / 32 then (1 : EReal) else 0) : EReal))
    (hx3 : ∀ (b : Fin 3) (r : Fin 256) (j : Fin 24), j.val = b.val * 8 + r.val / 32 →
      x3 (ix3 b r (0 : Fin 1)) = b1 (grp (slot j)) (plc (slot j)) ⟨r.val % 32, by omega⟩)
    (hx4 : ∀ (j : Fin 24) (p : Fin 768), x4 (ix2 j p)
      = (W2 (grp (slot j)) (plc (slot j)) ⟨p.val % 32, by omega⟩ * (if p.val / 32 = j.val then (1 : EReal) else 0) : EReal))
    (hx5 : ∀ j : Fin 24, x5 (ix2 j (0 : Fin 1)) = b2 (grp (slot j)) (plc (slot j)))
    (hx6 : ∀ j j' : Fin 24, x6 (ix2 j j') = (if grp (slot j') = grp (slot j) then (1 : EReal) else 0)) (j : Fin 24) :
    k0_pay1 (k0_pay3 x0 (View.ld x2 r0_1) (View.ld x3 r0_2)) (k0_pay4 x0 (View.ld x2 r0_3) (View.ld x3 r0_4)) (k0_pay5 x0 (View.ld x2 r0_5))
      (k0_pay6 (View.ld x3 r0_6)) x4 x5 x1 x6 (ix3 j (0 : Fin 1) n) = out h v W1 b1 W2 b2 j := by
  have h2 := ld_tables x2
  have h3 := ld_columns x3
  revert h2 h3
  generalize (View.ld x2 r0_1 : Vec Ideal S1x256x256 .bf16) = A0
  generalize (View.ld x2 r0_3 : Vec Ideal S1x256x256 .bf16) = A1
  generalize (View.ld x2 r0_5 : Vec Ideal S1x256x256 .bf16) = A2
  generalize (View.ld x3 r0_2 : Vec Ideal S1x256x1 .f32) = B0
  generalize (View.ld x3 r0_4 : Vec Ideal S1x256x1 .f32) = B1
  generalize (View.ld x3 r0_6 : Vec Ideal S1x256x1 .f32) = B2
  intro h2 h3
  exact point h v W1 b1 W2 b2 hv x0 x1 ![A0, A1, A2] ![B0, B1, B2] x4 x5 x6 n hx0 hx1
    (fun b r k j hj => (h2 b r k).trans (hx2 b r k j hj)) (fun b r j hj => (h3 b r).trans (hx3 b r j hj)) hx4 hx5 hx6 j

/-- The block that a grid point reads of window 0, by the array it is cut from: the samples from `4096 t` on. -/
theorem blk0 (c : Dev nD) (t : Fin cfg0.N) (p : Fin 768) (n : Fin 4096) (s : Fin 131072) (hs : s.val = t.val * 4096 + n.val) :
    iblk m c 0 t (ix2 p n) = V m c main_v54 (ix2 p s) := by
  obtain ⟨e0, e1, e2, e3, e4, e5, e6, e7⟩ := idx t
  blk_ext [iblk, e0]

/-- The block that a grid point reads of window 1, by the array it is cut from: the samples from `4096 t` on. -/
theorem blk1 (c : Dev nD) (t : Fin cfg0.N) (p : Fin 24) (n : Fin 4096) (s : Fin 131072) (hs : s.val = t.val * 4096 + n.val) :
    iblk m c 1 t (ix2 p n) = V m c main_v55 (ix2 p s) := by
  obtain ⟨e0, e1, e2, e3, e4, e5, e6, e7⟩ := idx t
  blk_ext [iblk, e1]

/-- The block that a grid point reads of window 2, by the array it is cut from: the whole array. -/
theorem blk2 (c : Dev nD) (t : Fin cfg0.N) (b : Fin 3) (r k : Fin 256) : iblk m c 2 t (ix3 b r k) = V m c main_v56 (ix3 b r k) := by
  obtain ⟨e0, e1, e2, e3, e4, e5, e6, e7⟩ := idx t
  blk_ext [iblk, e2]

/-- The block that a grid point reads of window 3, by the array it is cut from: the whole array. -/
theorem blk3 (c : Dev nD) (t : Fin cfg0.N) (b : Fin 3) (r : Fin 256) :
    iblk m c 3 t (ix3 b r (0 : Fin 1)) = V m c main_v26 (ix3 b r (0 : Fin 1)) := by
  obtain ⟨e0, e1, e2, e3, e4, e5, e6, e7⟩ := idx t
  blk_ext [iblk, e3]

/-- The block that a grid point reads of window 4, by the array it is cut from: the whole array. -/
theorem blk4 (c : Dev nD) (t : Fin cfg0.N) (j : Fin 24) (p : Fin 768) : iblk m c 4 t (ix2 j p) = V m c main_v57 (ix2 j p) := by
  obtain ⟨e0, e1, e2, e3, e4, e5, e6, e7⟩ := idx t
  blk_ext [iblk, e4]

/-- The block that a grid point reads of window 5, by the array it is cut from: the whole array. -/
theorem blk5 (c : Dev nD) (t : Fin cfg0.N) (j : Fin 24) : iblk m c 5 t (ix2 j (0 : Fin 1)) = V m c main_v52 (ix2 j (0 : Fin 1)) := by
  obtain ⟨e0, e1, e2, e3, e4, e5, e6, e7⟩ := idx t
  blk_ext [iblk, e5]

/-- The block that a grid point reads of window 6, by the array it is cut from: the whole array. -/
theorem blk6 (c : Dev nD) (t : Fin cfg0.N) (j j' : Fin 24) : iblk m c 6 t (ix2 j j') = V m c main_cst (ix2 j j') := by
  obtain ⟨e0, e1, e2, e3, e4, e5, e6, e7⟩ := idx t
  blk_ext [iblk, e6]

/-- The region's output array: the result, with the sample on the last axis. -/
def G (c : Dev nD) : Buf (Elt Ideal) ((c : Thread nD τ).loc main_v58) := fun i : S24x1x131072.Idx =>
  out (aH m c (i 2)) (aV m c (i 2)) (aW1 m c) (aB1 m c) (aW2 m c) (aB2 m c) (i 0)

/-- The region's output array after the run, where every flag is 0 or 1. -/
theorem final_out (c : Dev nD) (hv : ∀ s j, aV m c s j = 0#32 ∨ aV m c s j = 1#32) : (dats m 0 c).arrAt 7 cfg0.N = G m c := by
  refine (dats m 0 c).arrAt_eq_of_covers 7 _ (by decide +kernel) fun t hf y => ?_
  obtain ⟨e0, e1, e2, e3, e4, e5, e6, e7⟩ := idx t
  blk_simp
  rw [after0_7]
  frame_out
  idx_vars y
  have hy1 : y1 = (0 : Fin 1) := Subsingleton.elim _ _
  subst hy1
  have ht : t.val < 32 := t.isLt
  obtain ⟨s, hs⟩ : ∃ s : Fin 131072, s.val = t.val * 4096 + y2.val := ⟨⟨t.val * 4096 + y2.val, by omega⟩, rfl⟩
  have hemb : G m c (((View.whole main_v58).slice (win0_7.rect t)).emb (ix3 y0 (0 : Fin 1) y2))
      = out (aH m c s) (aV m c s) (aW1 m c) (aB1 m c) (aW2 m c) (aB2 m c) y0 := by
    have : ((View.whole main_v58).slice (win0_7.rect t)).emb (ix3 y0 (0 : Fin 1) y2) = ix3 y0 (0 : Fin 1) s := by
      blk_ext [e7]
    rw [this]; rfl
  rw [hemb]
  exact point_ld (aH m c s) (aV m c s) (aW1 m c) (aB1 m c) (aW2 m c) (aB2 m c) (hv s) (iblk m c 0 t) (iblk m c 1 t)
    (iblk m c 2 t) (iblk m c 3 t) (iblk m c 4 t) (iblk m c 5 t) (iblk m c 6 t) y2
    (fun p => (blk0 m c t p y2 s hs).trans (h2_at m c p s))
    (fun j => (blk1 m c t j y2 s hs).trans (val_at m c j s))
    (fun b r k j hj => (blk2 m c t b r k).trans (bd_at m c b r k j hj))
    (fun b r j hj => (blk3 m c t b r).trans (b1_at m c b r j hj))
    (fun j p => (blk4 m c t j p).trans (w2_at m c j p))
    (fun j => (blk5 m c t j).trans (b2_at m c j))
    (fun j j' => (blk6 m c t j j').trans (mask_at m c j j')) y0

end Cert.KernelIdeal.Value
-- ==== Proof.KernelRun.lean ====
/-
  The kernel's whole run: what its result array holds at the end, and that its arguments end unchanged.
-/
module

public import proofs.«01_k».proof.Proof.KernelValue

@[expose] public section

set_option maxRecDepth 16384

noncomputable section

open Idealize.ShloMosaic Idealize.ShloMosaic.TcCoe Idealize.SL.Sem Cert.Heads
open Idealize.ShloMosaic.Pipeline (Dat)

namespace Cert.KernelIdeal.Value

open Cert.KernelIdeal Cert.KernelIdeal.Gen

variable (m : (ℓ : Loc nD τ sig) → Buf (Elt Ideal) ℓ)

/-- The result array: at each sample and node, `out` of the arguments. -/
def Res (c : Dev nD) : Buf (Elt Ideal) ((c : Thread nD τ).loc main_v59) := fun i : S131072x24x1.Idx =>
  out (aH m c (i 0)) (aV m c (i 0)) (aW1 m c) (aB1 m c) (aW2 m c) (aB2 m c) (i 1)

/-- After the host operation that follows the region the result array is the region's output with its axes moved. -/
theorem tail_res (c : Dev nD) (hv : ∀ s j, aV m c s j = 0#32 ∨ aV m c s j = 1#32) :
    Pipeline.afterTail₀ cfgs (dats m) 0 (V0 m) [hostOps1] c main_v59 = Res m c := by
  funext i
  change S131072x24x1.Idx at i
  idx_vars i
  unfold Pipeline.afterTail₀
  after_reads_at
  refine (congrFun (Pipeline.withArrays_arr spec0 (by decide) c (V0 m c) (fun w => (dats m 0 c).arrAt w cfg0.N) 7) (ix3 i1 (0 : Fin 1) i0)).trans ?_
  rw [final_out m c hv]
  rfl

/-- Every run of the kernel ends with the result array at `Res` and the arguments unchanged, where every flag is 0 or 1. -/
theorem run (ρ : Dev nD → PrngReg) (hv : ∀ c s j, aV m c s j = 0#32 ∨ aV m c s j = 1#32) :
    θ_run defs (onTc (τ := τ) (main (F := Ideal))) ⟨m, fun _ => 0, ρ⟩ (fun r => ∀ c : Dev nD,
      r.2.mem ((c.tc : Thread nD τ).loc main_v59) = Res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v59 (Pipeline.mem_restRefs_of main_v59 (by decide) (by decide))).trans (tail_res m c (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Value
-- ==== Proof.RefValue.lean ====
/-
  What the reference leaves in its result array, element by element: the same function `out` of the arguments.
-/
module

public import proofs.«01_k».proof.Proof.Spec
public import proofs.«01_k».proof.Proof.Gen.ReferenceIdeal.Run
public import Idealize.ShloMosaic.Lib.Pipeline.ValueKit
public import Idealize.ShloMosaic.Lib.StableHlo.ReadAt
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem Cert.Heads

namespace Cert.ReferenceIdeal.Value

open Cert.ReferenceIdeal Cert.ReferenceIdeal.Gen

/-- The take of four nodes' features: each from the node named by its index word. -/
theorem take_nodes {α : Type} (x : S131072x24x32.Idx → α) (idx : IVec S4x1 32) (s : Fin 131072) (k : Fin 4) (l : Fin 32) (v : Fin 24)
    (hv : idx (ix2 k (0 : Fin 1)) = BitVec.ofNat 32 v.val) :
    Host.gather gather_S131072x24x32_S4x1_S131072x4x32_02_1_n_n_1_1_131072132 x idx (ix3 s k l) = x (ix3 s v l) := by
  unfold Host.gather
  refine congrArg x (funext fun a => Fin.ext ?_)
  have hs : ∀ i, gather_S131072x24x32_S4x1_S131072x4x32_02_1_n_n_1_1_131072132.siIdx (ix3 s k l) i = ix2 k (0 : Fin 1) := fun i =>
    funext fun b => match b with
      | ⟨0, _⟩ => rfl
      | ⟨1, _⟩ => Fin.ext (by have := i.isLt; show i.val = 0; change i.val < 1 at this; omega)
  match a with
  | ⟨0, _⟩ => show 0 + 0 + s.val = s.val; omega
  | ⟨1, _⟩ =>
    show min (idx (gather_S131072x24x32_S4x1_S131072x4x32_02_1_n_n_1_1_131072132.siIdx (ix3 s k l) ⟨0, by decide⟩)).toInt.toNat 23 + 0 + 0 = v.val
    rw [hs, hv]; exact clamp v
  | ⟨2, _⟩ => show 0 + 0 + l.val = l.val; omega

/-- The take of four nodes' flags: each from the node named by its index word. -/
theorem take_flags {α : Type} (x : S131072x24.Idx → α) (idx : IVec S4x1 32) (s : Fin 131072) (k : Fin 4) (v : Fin 24)
    (hv : idx (ix2 k (0 : Fin 1)) = BitVec.ofNat 32 v.val) :
    Host.gather gather_S131072x24_S4x1_S131072x4_0_1_n_n_1_1_1310721 x idx (ix2 s k) = x (ix2 s v) := by
  unfold Host.gather
  refine congrArg x (funext fun a => Fin.ext ?_)
  have hs : ∀ i, gather_S131072x24_S4x1_S131072x4_0_1_n_n_1_1_1310721.siIdx (ix2 s k) i = ix2 k (0 : Fin 1) := fun i =>
    funext fun b => match b with
      | ⟨0, _⟩ => rfl
      | ⟨1, _⟩ => Fin.ext (by have := i.isLt; show i.val = 0; change i.val < 1 at this; omega)
  match a with
  | ⟨0, _⟩ => show 0 + 0 + s.val = s.val; omega
  | ⟨1, _⟩ =>
    show min (idx (gather_S131072x24_S4x1_S131072x4_0_1_n_n_1_1_1310721.siIdx (ix2 s k) ⟨0, by decide⟩)).toInt.toNat 23 + 0 + 0 = v.val
    rw [hs, hv]; exact clamp v

/-- The index words of one group's takes, from the group's row of the table of groups. -/
def words (ix : IVec S4 32) : IVec S4x1 32 :=
  broadcastInDim S4x1 ![0] bcast_S4_S4x1_0 (select (cmpi .slt ix (broadcastInDim S4 ![] bcast_S_S4 (constantI S_ 32 0#32)))
    (addi ix (broadcastInDim S4 ![] bcast_S_S4 (constantI S_ 32 24#32))) ix)

/-- One group's part of the result, from the group's row of the table of groups and its weights. -/
def piece (H : FVec Ideal S131072x24x32 .f32) (v : IVec S131072x24 32) (ix : IVec S4 32) (W1 : FVec Ideal S4x32x32 .f32)
    (b1 : FVec Ideal S1x4x32 .f32) (W2 : FVec Ideal S4x32x1 .f32) (b2 : FVec Ideal S1x4x1 .f32) : FVec Ideal S131072x1x4x1 .f32 :=
  broadcastInDim S131072x1x4x1 ![0, 2, 3] bcast_S131072x4x1_S131072x1x4x1_0_2_3 (mulf (addf (transpose S131072x4x1 [2, 0, 1]
    (Host.dotGeneral dot_S4x32x1_S131072x4x32_S4x1x131072_1_2_2_0_0_1 none W2 (maximumf (addf (transpose S131072x4x32 [2, 0, 1]
      (Host.dotGeneral dot_S4x32x32_S131072x4x32_S4x32x131072_1_2_2_0_0_1 none W1
        (maximumf (Host.gather gather_S131072x24x32_S4x1_S131072x4x32_02_1_n_n_1_1_131072132 H (words ix))
          (broadcastInDim S131072x4x32 ![] bcast_S_S131072x4x32 (constant S_ .f32 0x00000000#32)))) transposes_S4x32x131072_S131072x4x32_2_0_1)
      (broadcastInDim S131072x4x32 ![0, 1, 2] bcast_S1x4x32_S131072x4x32_0_1_2 b1))
      (broadcastInDim S131072x4x32 ![] bcast_S_S131072x4x32 (constant S_ .f32 0x00000000#32)))) transposes_S4x1x131072_S131072x4x1_2_0_1)
    (broadcastInDim S131072x4x1 ![0, 1, 2] bcast_S1x4x1_S131072x4x1_0_1_2 b2))
    (broadcastInDim S131072x4x1 ![0, 1, 2] bcast_S131072x1x1_S131072x4x1_0_1_2 (broadcastInDim S131072x1x1 ![0] bcast_S131072_S131072x1x1_0
      (uitofp .f32 (cmpi .sgt (Host.reduce IntOp.addi (Host.gather gather_S131072x24_S4x1_S131072x4_0_1_n_n_1_1_1310721 v (words ix))
        (constantI S_ 32 0#32) reducesTo_S131072x4_S131072_d1 h_S_) (broadcastInDim S131072 ![] bcast_S_S131072 (constantI S_ 32 0#32)))))))

/-- A node's number is not negative, so the index word that wraps a negative number round leaves it. -/
theorem word_select : ∀ v : Fin 24, Scalar.select (IntOp.cmpi CmpIPredicate.slt (BitVec.ofNat 32 v.val) 0#32)
    (IntOp.addi (BitVec.ofNat 32 v.val) 24#32) (BitVec.ofNat 32 v.val) = BitVec.ofNat 32 v.val := by decide +kernel

/-- The index word of a place of a group is its node's number. -/
theorem words_at (ix : IVec S4 32) (k : Fin 4) (v : Fin 24) (hv : ix (ix1 k) = BitVec.ofNat 32 v.val) :
    words ix (ix2 k (0 : Fin 1)) = BitVec.ofNat 32 v.val := by
  pointwise [words]
  rw [hv]
  exact word_select v

/-- One group's part of the result at a sample and a place of the group. -/
theorem piece_at (H : FVec Ideal S131072x24x32 .f32) (v : IVec S131072x24 32) (ix : IVec S4 32) (W1 : FVec Ideal S4x32x32 .f32)
    (b1 : FVec Ideal S1x4x32 .f32) (W2 : FVec Ideal S4x32x1 .f32) (b2 : FVec Ideal S1x4x1 .f32)
    (w1' : Fin 6 → Fin 4 → Fin 32 → Fin 32 → EReal) (b1' w2' : Fin 6 → Fin 4 → Fin 32 → EReal) (b2' : Fin 6 → Fin 4 → EReal) (g : Fin 6)
    (hv : ∀ s j, v (ix2 s j) = 0#32 ∨ v (ix2 s j) = 1#32)
    (hix : ∀ k, ix (ix1 k) = BitVec.ofNat 32 (nodeAt g k).val) (hW1 : ∀ k l w, W1 (ix3 k l w) = w1' g k l w)
    (hb1 : ∀ k w, b1 (ix3 (0 : Fin 1) k w) = b1' g k w) (hW2 : ∀ k w, W2 (ix3 k w (0 : Fin 1)) = w2' g k w)
    (hb2 : ∀ k, b2 (ix3 (0 : Fin 1) k (0 : Fin 1)) = b2' g k) (s : Fin 131072) (k : Fin 4) :
    piece H v ix W1 b1 W2 b2 (ix4 s (0 : Fin 1) k (0 : Fin 1))
      = out (fun j l => H (ix3 s j l)) (fun j => v (ix2 s j)) w1' b1' w2' b2' (nodeAt g k) := by
  classical
  have hH : ∀ l, Host.gather gather_S131072x24x32_S4x1_S131072x4x32_02_1_n_n_1_1_131072132 H (words ix) (ix3 s k l)
      = H (ix3 s (nodeAt g k) l) := fun l => take_nodes H _ s k l _ (words_at ix k _ (hix k))
  have hF : (fun x => Host.gather gather_S131072x24_S4x1_S131072x4_0_1_n_n_1_1_1310721 v (words ix) (ix2 s x))
      = fun x => v (ix2 s (nodeAt g x)) := funext fun x => take_flags v _ s x _ (words_at ix x _ (hix x))
  pointwise [piece]
  rw [hF, flags_pos _ fun x => hv s (nodeAt g x)]
  simp only [hH, hW1, hb1, hW2, hb2]
  unfold out
  rw [grp_nodeAt, plc_nodeAt]
  by_cases hL : ∃ k', v (ix2 s (nodeAt g k')) = 1#32
  · rw [if_pos hL, if_pos ((live_nodeAt (fun j => v (ix2 s j)) g k).2 hL)]
    have h1 : (FloatOps.uitofp FTy.f32 (1#1) : Ideal .f32) = (1 : EReal) := by
      show (((1#1 : BitVec 1).toNat : ℝ) : EReal) = 1
      norm_num
    exact (congrArg _ h1).trans (mul_one _)
  · rw [if_neg hL, if_neg fun q => hL ((live_nodeAt (fun j => v (ix2 s j)) g k).1 q)]
    have h0 : (FloatOps.uitofp FTy.f32 (0#1) : Ideal .f32) = (0 : EReal) := by
      show (((0#1 : BitVec 1).toNat : ℝ) : EReal) = 0
      norm_num
    exact (congrArg _ h0).trans (mul_zero _)

/-- A scatter of whole columns, one column per index word: update `(s, q, 0)` lands at `(s, j, 0)` with `j` the node its word names. -/
theorem lands (idx : IVec S24x1 32) (s s' : Fin 131072) (q j : Fin 24) (v : Fin 24) (hq : idx (ix2 q (0 : Fin 1)) = BitVec.ofNat 32 v.val) :
    scatter_S131072x24x1_S24x1_S131072x24x1_02_1_1_1.resultIdx? (ix3 s' q (0 : Fin 1)) idx = some (ix3 s j (0 : Fin 1)) ↔ s' = s ∧ v = j := by
  have hs : ∀ i, scatter_S131072x24x1_S24x1_S131072x24x1_02_1_1_1.siIdx (ix3 s' q (0 : Fin 1)) i = ix2 q (0 : Fin 1) := fun i =>
    funext fun b => match b with
      | ⟨0, _⟩ => rfl
      | ⟨1, _⟩ => Fin.ext (by have := i.isLt; show i.val = 0; change i.val < 1 at this; omega)
  have hn : (BitVec.ofNat 32 v.val).toInt = (v.val : Int) := (by decide : ∀ v : Fin 24, (BitVec.ofNat 32 v.val).toInt = (v.val : Int)) v
  have e1 : scatter_S131072x24x1_S24x1_S131072x24x1_02_1_1_1.start (ix3 s' q (0 : Fin 1)) idx (1 : Fin 3) = (v.val : Int) := by
    show (idx (scatter_S131072x24x1_S24x1_S131072x24x1_02_1_1_1.siIdx (ix3 s' q (0 : Fin 1)) ⟨0, by decide⟩)).toInt = _
    rw [hs, hq, hn]
  rw [Idealize.ShloMosaic.Routing.resultIdx?_eq_some]
  constructor
  · intro h
    have h0 := h (0 : Fin 3)
    have h1 := h (1 : Fin 3)
    rw [e1] at h1
    change (0 : Int) + ((s'.val : Nat) : Int) = (s.val : Int) at h0
    change (v.val : Int) + ((0 : Nat) : Int) = (j.val : Int) at h1
    exact ⟨Fin.ext (by omega), Fin.ext (by omega)⟩
  · rintro ⟨rfl, rfl⟩ a
    match a with
    | ⟨0, _⟩ => show (0 : Int) + ((s'.val : Nat) : Int) = (s'.val : Int); omega
    | ⟨1, _⟩ =>
      refine (congrArg (· + _) e1).trans ?_
      show (v.val : Int) + ((0 : Nat) : Int) = (v.val : Int); omega
    | ⟨2, _⟩ => rfl

section Result

variable (V0 : Valuation τ sig (Elt Ideal))

/-- A group's row of the table of groups. -/
def row (g : Fin 6) : IVec S4 32 :=
  shapeCast S4 (extractStridedSlice S1x4 ![g.val, 0] (res_main_c V0 : IVec S6x4 32) ((by decide : ∀ g : Fin 6, S6x4.Slices ![g.val, 0] S1x4) g)) shapeCasts_S1x4_S4

/-- A group's part of the result, from the program's arguments. -/
def part (g : Fin 6) : FVec Ideal S131072x1x4x1 .f32 :=
  piece (V0 (Proc.devRef .tc main_arg0)) (V0 (Proc.devRef .tc main_arg1)) (row V0 g)
    (shapeCast S4x32x32 (extractStridedSlice S1x4x32x32 ![g.val, 0, 0, 0] (V0 (Proc.devRef .tc main_arg2) : FVec Ideal S6x4x32x32 .f32)
      ((by decide : ∀ g : Fin 6, S6x4x32x32.Slices ![g.val, 0, 0, 0] S1x4x32x32) g)) shapeCasts_S1x4x32x32_S4x32x32)
    (shapeCast S1x4x32 (extractStridedSlice S1x1x4x32 ![g.val, 0, 0, 0] (V0 (Proc.devRef .tc main_arg3) : FVec Ideal S6x1x4x32 .f32)
      ((by decide : ∀ g : Fin 6, S6x1x4x32.Slices ![g.val, 0, 0, 0] S1x1x4x32) g)) shapeCasts_S1x1x4x32_S1x4x32)
    (shapeCast S4x32x1 (extractStridedSlice S1x4x32x1 ![g.val, 0, 0, 0] (V0 (Proc.devRef .tc main_arg4) : FVec Ideal S6x4x32x1 .f32)
      ((by decide : ∀ g : Fin 6, S6x4x32x1.Slices ![g.val, 0, 0, 0] S1x4x32x1) g)) shapeCasts_S1x4x32x1_S4x32x1)
    (shapeCast S1x4x1 (extractStridedSlice S1x1x4x1 ![g.val, 0, 0, 0] (V0 (Proc.devRef .tc main_arg5) : FVec Ideal S6x1x4x1 .f32)
      ((by decide : ∀ g : Fin 6, S6x1x4x1.Slices ![g.val, 0, 0, 0] S1x1x4x1) g)) shapeCasts_S1x1x4x1_S1x4x1)

/-- The stacked result is the six groups' parts side by side. -/
theorem parts : (res_main_v252 V0 : FVec Ideal S131072x6x4x1 .f32) = concatenate S131072x6x4x1 1 [⟨S131072x1x4x1, part V0 0⟩, ⟨S131072x1x4x1, part V0 1⟩,
    ⟨S131072x1x4x1, part V0 2⟩, ⟨S131072x1x4x1, part V0 3⟩, ⟨S131072x1x4x1, part V0 4⟩, ⟨S131072x1x4x1, part V0 5⟩]
    concatenates_S131072x1x4x1_S131072x1x4x1_S131072x1x4x1_S131072x1x4x1_S131072x1x4x1_S131072x1x4x1_S131072x6x4x1_d1 := by
  unfold res_main_v252
  rfl

/-- The reference's table of nodes lists `node q` at `q`. -/
theorem lit0_node : ∀ q : Fin 24, lit0 q = BitVec.ofNat 32 (node q).val := by decide

/-- The entries of a row of the table of groups: the nodes of the group. -/
theorem row_at (g : Fin 6) (k : Fin 4) : row V0 g (ix1 k) = BitVec.ofNat 32 (nodeAt g k).val := by
  pointwise [row, res_main_c]
  have h : S6x4.rowMajor (ix2 g k) = ⟨g.val * 4 + k.val, by show g.val * 4 + k.val < 24; omega⟩ := Fin.ext (rowMajor_val2 (ix2 g k) 4 rfl)
  rw [h]
  exact lit0_node ⟨g.val * 4 + k.val, by omega⟩

/-- The scatter's index column: the nodes in the order of the groups. -/
theorem places_at (q : Fin 24) :
    (broadcastInDim S24x1 ![0] bcast_S24_S24x1_0 (select (cmpi .slt (res_main_v254 V0) (broadcastInDim S24 ![] bcast_S_S24 (constantI S_ 32 0#32)))
      (addi (res_main_v254 V0) (broadcastInDim S24 ![] bcast_S_S24 (constantI S_ 32 24#32))) (res_main_v254 V0)) : IVec S24x1 32) (ix2 q (0 : Fin 1))
      = BitVec.ofNat 32 (node q).val := by
  pointwise [res_main_v254, res_main_c]
  have h : S6x4.rowMajor (ix2 (⟨q.val / 4, by omega⟩ : Fin 6) (⟨q.val % 4, by omega⟩ : Fin 4)) = q :=
    Fin.ext ((rowMajor_val2 (ix2 (⟨q.val / 4, by omega⟩ : Fin 6) (⟨q.val % 4, by omega⟩ : Fin 4)) 4 rfl).trans
      (by show q.val / 4 * 4 + q.val % 4 = q.val; omega))
  rw [h, lit0_node]
  exact word_select (node q)

/-- The result at each sample and node, as a function of the program's arguments. -/
abbrev outOf (s : Fin 131072) (j : Fin 24) : EReal :=
  out (fun j l => (V0 (Proc.devRef .tc main_arg0) : FVec Ideal S131072x24x32 .f32) (ix3 s j l))
    (fun j => (V0 (Proc.devRef .tc main_arg1) : IVec S131072x24 32) (ix2 s j))
    (fun g k l w => (V0 (Proc.devRef .tc main_arg2) : FVec Ideal S6x4x32x32 .f32) (ix4 g k l w))
    (fun g k w => (V0 (Proc.devRef .tc main_arg3) : FVec Ideal S6x1x4x32 .f32) (ix4 g (0 : Fin 1) k w))
    (fun g k w => (V0 (Proc.devRef .tc main_arg4) : FVec Ideal S6x4x32x1 .f32) (ix4 g k w (0 : Fin 1)))
    (fun g k => (V0 (Proc.devRef .tc main_arg5) : FVec Ideal S6x1x4x1 .f32) (ix4 g (0 : Fin 1) k (0 : Fin 1))) j

variable (hv : ∀ (s : Fin 131072) (j : Fin 24), (V0 (Proc.devRef .tc main_arg1) : IVec S131072x24 32) (ix2 s j) = 0#32
  ∨ (V0 (Proc.devRef .tc main_arg1) : IVec S131072x24 32) (ix2 s j) = 1#32)

include hv

/-- A group's part at a sample and a place of the group. -/
theorem part_at (g : Fin 6) (s : Fin 131072) (k : Fin 4) : part V0 g (ix4 s (0 : Fin 1) k (0 : Fin 1)) = outOf V0 s (nodeAt g k) := by
  unfold part
  refine piece_at _ _ _ _ _ _ _ _ _ _ _ g hv (row_at V0 g) ?_ ?_ ?_ ?_ s k
  · intro k l w; pointwise
  · intro k w; pointwise
  · intro k w; pointwise
  · intro k; pointwise

/-- The stacked result at a sample, a group and a place of the group. -/
theorem stack_at (g : Fin 6) (s : Fin 131072) (k : Fin 4) :
    (res_main_v252 V0 : FVec Ideal S131072x6x4x1 .f32) (ix4 s g k (0 : Fin 1)) = outOf V0 s (nodeAt g k) := by
  have key : ∀ (n : Fin 6) (i : S131072x1x4x1.Idx), g.val = n.val → (i 0).val = s.val → (i 2).val = k.val →
      part V0 n i = outOf V0 s (nodeAt g k) := fun n i hn h0 h2 => by
    have hi : i = ix4 s (0 : Fin 1) k (0 : Fin 1) := by
      funext a
      match a with
      | ⟨0, _⟩ => exact Fin.ext h0
      | ⟨1, _⟩ => exact Subsingleton.elim (α := Fin 1) _ _
      | ⟨2, _⟩ => exact Fin.ext h2
      | ⟨3, _⟩ => exact Subsingleton.elim (α := Fin 1) _ _
    rw [hi, Fin.ext hn]
    exact part_at V0 hv n s k
  rw [parts]
  concat_tiles i h
  all_goals exact key _ i h h0 h2

/-- The reference's result array at a sample and a node. -/
theorem result_at (s : Fin 131072) (j : Fin 24) :
    Host.scatter scatter_S131072x24x1_S24x1_S131072x24x1_02_1_1_1 (fun _ b => b)
      (broadcastInDim S131072x24x1 ![] bcast_S_S131072x24x1 (constant S_ .f32 0x00000000#32) : FVec Ideal S131072x24x1 .f32)
      (broadcastInDim S24x1 ![0] bcast_S24_S24x1_0 (select (cmpi .slt (res_main_v254 V0) (broadcastInDim S24 ![] bcast_S_S24 (constantI S_ 32 0#32)))
        (addi (res_main_v254 V0) (broadcastInDim S24 ![] bcast_S_S24 (constantI S_ 32 24#32))) (res_main_v254 V0)))
      (shapeCast _ (res_main_v252 V0) shapeCasts_S131072x6x4x1_S131072x24x1) (ix3 s j (0 : Fin 1)) = outOf V0 s j := by
  have hup : ∀ q : Fin 24, (shapeCast S131072x24x1 (res_main_v252 V0 : FVec Ideal S131072x6x4x1 .f32) shapeCasts_S131072x6x4x1_S131072x24x1) (ix3 s q (0 : Fin 1))
      = outOf V0 s (node q) := fun q => by
    pointwise
    refine (stack_at V0 hv ⟨q.val / 4, by omega⟩ s ⟨q.val % 4, by omega⟩).trans (congrArg (outOf V0 s) (congrArg node (Fin.ext ?_)))
    show q.val / 4 * 4 + q.val % 4 = q.val
    omega
  refine Idealize.ShloMosaic.Routing.scatter_set_hit _ _ _ _ _ _ (fun k hk => ?_) (ix3 s (slot j) (0 : Fin 1))
    ((lands _ s s (slot j) j (node (slot j)) (places_at V0 (slot j))).2 ⟨rfl, node_slot j⟩)
  change S131072x24x1.Idx at k
  idx_vars k
  have hk2 : k2 = (0 : Fin 1) := Subsingleton.elim _ _
  subst hk2
  obtain ⟨rfl, rfl⟩ := (lands _ s k0 k1 j (node k1) (places_at V0 k1)).1 hk
  exact hup k1

end Result

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_valid_range
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- A word that passes both comparisons of the precondition is 0 or 1. -/
theorem flag_of_range (x : BitVec 32)
    (h : IntOp.andi (IntOp.cmpi .sge x 0#32) (IntOp.cmpi .slt x 2#32) = 1#1) : x = 0#32 ∨ x = 1#32 := by
  have hx : 0 ≤ x.toInt ∧ x.toInt < 2 := by
    have hb : ∀ b : Bool, BitVec.ofBool b = 1#1 → b = true := by decide
    simp only [IntOp.andi, IntOp.cmpi, BitVec.sle, BitVec.slt] at h
    rw [BitVec.ofBool_and_ofBool] at h
    have h2 := hb _ h
    simp only [Bool.and_eq_true, decide_eq_true_eq] at h2
    simpa using h2
  have h' : x.toInt = 0 ∨ x.toInt = 1 := by omega
  rcases h' with h' | h'
  · exact Or.inl (BitVec.eq_of_toInt_eq h')
  · exact Or.inr (BitVec.eq_of_toInt_eq h')

/-- Under the precondition every flag of the kernel's second argument is 0 or 1. -/
theorem flags_of_pre (m : (ℓ : Loc Cert.KernelIdeal.nD Cert.KernelIdeal.τ Cert.KernelIdeal.sig) → Buf (Elt Ideal) ℓ)
    (h : Cert.Pre_KernelIdeal_valid_range m) (c : Dev Cert.KernelIdeal.nD) (s : Fin 131072) (j : Fin 24) :
    Cert.KernelIdeal.Value.aV m c s j = 0#32 ∨ Cert.KernelIdeal.Value.aV m c s j = 1#32 :=
  flag_of_range _ (congrFun (h c) (ix2 s j))

/-- The reference runs, leaves its arguments unchanged, and declares no semaphore, so every counter ends at zero. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Kernel and reference end with the same result array, where every flag is 0 or 1: the value both compute is
    `Cert.Heads.out` of the arguments. -/
theorem algebraic : Cert.algebraic_KernelIdeal_ReferenceIdeal_pre_valid_range := by
  intro m g m' g' hpre hagree
  have hv := flags_of_pre m hpre
  refine ⟨fun c => Cert.KernelIdeal.Value.Res m c, Cert.KernelIdeal.Value.run m g hv,
    (θ_run Cert.ReferenceIdeal.defs _ _).mono (fun r h c => ⟨(h c).1.trans ?_, (h c).2⟩)
      (Cert.ReferenceIdeal.Value.run (F := Ideal) m' g')⟩
  obtain ⟨h0, h1, h2, h3, h4, h5⟩ := hagree c
  funext i
  change Cert.KernelIdeal.S131072x24x1.Idx at i
  idx_vars i
  have hi : i2 = (0 : Fin 1) := Subsingleton.elim _ _
  subst hi
  refine (Cert.ReferenceIdeal.Value.result_at (StableHlo.launchContents m' c) ?_ i0 i1).trans ?_
  · intro s j
    have e := congrFun h1 (ix2 s j)
    exact (hv c s j).imp (fun k => e.trans k) (fun k => e.trans k)
  · have e0 : (fun j l => StableHlo.launchContents m' c (Proc.devRef .tc Cert.ReferenceIdeal.main_arg0) (ix3 i0 j l)) =
        Cert.KernelIdeal.Value.aH m c i0 := funext fun j => funext fun l => congrFun h0 (ix3 i0 j l)
    have e1 : (fun j => StableHlo.launchContents m' c (Proc.devRef .tc Cert.ReferenceIdeal.main_arg1) (ix2 i0 j)) =
        Cert.KernelIdeal.Value.aV m c i0 := funext fun j => congrFun h1 (ix2 i0 j)
    have e2 : (fun g k l w => StableHlo.launchContents m' c (Proc.devRef .tc Cert.ReferenceIdeal.main_arg2) (ix4 g k l w)) =
        Cert.KernelIdeal.Value.aW1 m c := funext fun g => funext fun k => funext fun l => funext fun w => congrFun h2 (ix4 g k l w)
    have e3 : (fun g k w => StableHlo.launchContents m' c (Proc.devRef .tc Cert.ReferenceIdeal.main_arg3) (ix4 g (0 : Fin 1) k w)) =
        Cert.KernelIdeal.Value.aB1 m c := funext fun g => funext fun k => funext fun w => congrFun h3 (ix4 g (0 : Fin 1) k w)
    have e4 : (fun g k w => StableHlo.launchContents m' c (Proc.devRef .tc Cert.ReferenceIdeal.main_arg4) (ix4 g k w (0 : Fin 1))) =
        Cert.KernelIdeal.Value.aW2 m c := funext fun g => funext fun k => funext fun w => congrFun h4 (ix4 g k w (0 : Fin 1))
    have e5 : (fun g k => StableHlo.launchContents m' c (Proc.devRef .tc Cert.ReferenceIdeal.main_arg5) (ix4 g (0 : Fin 1) k (0 : Fin 1))) =
        Cert.KernelIdeal.Value.aB2 m c := funext fun g => funext fun k => congrFun h5 (ix4 g (0 : Fin 1) k (0 : Fin 1))
    unfold Cert.ReferenceIdeal.Value.outOf
    exact congrFun (congr (congr (congr (congr (congr (congrArg Cert.Heads.out e0) e1) e2) e3) e4) e5) i1

/-- The claims of this directory, together. -/
theorem claim : Cert.Claim :=
  ⟨Cert.Kernel.Gen.facts, Cert.KernelIdeal.Gen.facts, Cert.ReferenceIdeal.Gen.facts, Cert.Pre_valid_range.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
